-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_labelled_KernelIdeal [hPre_finite_and_labelled_KernelIdeal : Cert.Pre_finite_and_labelled_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_labelled_ReferenceIdeal [hPre_finite_and_labelled_ReferenceIdeal : Cert.Pre_finite_and_labelled_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_labelled_KernelIdeal [hKernelIdeal : Cert.KernelIdeal.Facts] [hPre_finite_and_labelled_KernelIdeal : Cert.Pre_finite_and_labelled_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_labelled_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_labelled_ReferenceIdeal [hReferenceIdeal : Cert.ReferenceIdeal.Facts] [hPre_finite_and_labelled_ReferenceIdeal : Cert.Pre_finite_and_labelled_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_labelled_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_labelled_KernelIdeal [hKernelIdeal : Cert.KernelIdeal.Facts] [hReferenceIdeal : Cert.ReferenceIdeal.Facts] [hPre_finite_and_labelled_KernelIdeal : Cert.Pre_finite_and_labelled_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_labelled_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_labelled_KernelIdeal : Cert.Pre_finite_and_labelled_KernelIdeal.Facts) (hPre_finite_and_labelled_ReferenceIdeal : Cert.Pre_finite_and_labelled_ReferenceIdeal.Facts),
    quiescent_Kernel (hKernel := hKernel)
    ∧ quiescent_KernelIdeal (hKernelIdeal := hKernelIdeal)
    ∧ quiescent_KernelIdeal_pre_finite_and_labelled_KernelIdeal (hKernelIdeal := hKernelIdeal) (hPre_finite_and_labelled_KernelIdeal := hPre_finite_and_labelled_KernelIdeal)
    ∧ quiescent_ReferenceIdeal (hReferenceIdeal := hReferenceIdeal)
    ∧ quiescent_ReferenceIdeal_pre_finite_and_labelled_ReferenceIdeal (hReferenceIdeal := hReferenceIdeal) (hPre_finite_and_labelled_ReferenceIdeal := hPre_finite_and_labelled_ReferenceIdeal)
    ∧ preserves_Kernel_KernelIdeal
    ∧ algebraic_KernelIdeal_ReferenceIdeal_pre_finite_and_labelled_KernelIdeal (hKernelIdeal := hKernelIdeal) (hReferenceIdeal := hReferenceIdeal) (hPre_finite_and_labelled_KernelIdeal := hPre_finite_and_labelled_KernelIdeal)
-- ==== Pre_finite_and_labelled_KernelIdeal.lean ====
abbrev S2048x4096 : Shape := ⟨2, ![2048, 4096]⟩
abbrev S4096x8192 : Shape := ⟨2, ![4096, 8192]⟩
abbrev S2048 : Shape := ⟨1, ![2048]⟩
abbrev S_ : Shape := ⟨0, ![]⟩

class Facts : Prop where
  bcast_S_S2048x4096 : S_.BroadcastsInDim S2048x4096 (![] : Fin 0 → Fin S2048x4096.rank)
  bcast_S_S4096x8192 : S_.BroadcastsInDim S4096x8192 (![] : Fin 0 → Fin S4096x8192.rank)
  bcast_S_S2048 : S_.BroadcastsInDim S2048 (![] : Fin 0 → Fin S2048.rank)

variable [Facts]

def fn {F : FTy → Type} [FloatOps F] (main_arg0 : FVec F S2048x4096 .f32) (main_arg1 : FVec F S4096x8192 .f32) (main_arg2 : IVec S2048 32) : IVec S2048x4096 1 × IVec S4096x8192 1 × IVec S2048 1 × IVec S2048 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S4096x8192 .f32 := Host.absf main_arg1
  let main_cst_0 : FVec F S_ .f32 := constant S_ .f32 0x7F800000#32
  let main_v4 : FVec F S4096x8192 .f32 := broadcastInDim S4096x8192 ![] bcast_S_S4096x8192 main_cst_0
  let main_v5 : IVec S4096x8192 1 := cmpf .olt main_v3 main_v4
  let main_c : IVec S_ 32 := constantI S_ 32 0#32
  let main_v6 : IVec S2048 32 := broadcastInDim S2048 ![] bcast_S_S2048 main_c
  let main_v7 : IVec S2048 1 := cmpi .sge main_arg2 main_v6
  let main_c_1 : IVec S_ 32 := constantI S_ 32 16384#32
  let main_v8 : IVec S2048 32 := broadcastInDim S2048 ![] bcast_S_S2048 main_c_1
  let main_v9 : IVec S2048 1 := cmpi .slt main_arg2 main_v8
  (main_v2, main_v5, main_v7, main_v9)
-- ==== Pre_finite_and_labelled_ReferenceIdeal.lean ====
abbrev S2048x4096 : Shape := ⟨2, ![2048, 4096]⟩
abbrev S4096x16384 : Shape := ⟨2, ![4096, 16384]⟩
abbrev S2048 : Shape := ⟨1, ![2048]⟩
abbrev S_ : Shape := ⟨0, ![]⟩

class Facts : Prop where
  bcast_S_S2048x4096 : S_.BroadcastsInDim S2048x4096 (![] : Fin 0 → Fin S2048x4096.rank)
  bcast_S_S4096x16384 : S_.BroadcastsInDim S4096x16384 (![] : Fin 0 → Fin S4096x16384.rank)
  bcast_S_S2048 : S_.BroadcastsInDim S2048 (![] : Fin 0 → Fin S2048.rank)

variable [Facts]

def fn {F : FTy → Type} [FloatOps F] (main_arg0 : FVec F S2048x4096 .f32) (main_arg1 : FVec F S4096x16384 .f32) (main_arg2 : IVec S2048 32) : IVec S2048x4096 1 × IVec S4096x16384 1 × IVec S2048 1 × IVec S2048 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S4096x16384 .f32 := Host.absf main_arg1
  let main_cst_0 : FVec F S_ .f32 := constant S_ .f32 0x7F800000#32
  let main_v4 : FVec F S4096x16384 .f32 := broadcastInDim S4096x16384 ![] bcast_S_S4096x16384 main_cst_0
  let main_v5 : IVec S4096x16384 1 := cmpf .olt main_v3 main_v4
  let main_c : IVec S_ 32 := constantI S_ 32 0#32
  let main_v6 : IVec S2048 32 := broadcastInDim S2048 ![] bcast_S_S2048 main_c
  let main_v7 : IVec S2048 1 := cmpi .sge main_arg2 main_v6
  let main_c_1 : IVec S_ 32 := constantI S_ 32 16384#32
  let main_v8 : IVec S2048 32 := broadcastInDim S2048 ![] bcast_S_S2048 main_c_1
  let main_v9 : IVec S2048 1 := cmpi .slt main_arg2 main_v8
  (main_v2, main_v5, main_v7, main_v9)
-- ==== Kernel.lean ====
abbrev S2048x4096 : Shape := ⟨2, ![2048, 4096]⟩
abbrev S4096x8192 : Shape := ⟨2, ![4096, 8192]⟩
abbrev S2048 : Shape := ⟨1, ![2048]⟩
abbrev S2048x1 : Shape := ⟨2, ![2048, 1]⟩
abbrev S4096x512 : Shape := ⟨2, ![4096, 512]⟩
abbrev S2x512x4096 : Shape := ⟨3, ![2, 512, 4096]⟩
abbrev S2048x128 : Shape := ⟨2, ![2048, 128]⟩
abbrev S2 : Shape := ⟨1, ![2]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩
abbrev S2048x512 : Shape := ⟨2, ![2048, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S4096x8192, .f32⟩
  | .hbm, ⟨2, _⟩ => ⟨S2048, .i32⟩
  | .hbm, ⟨3, _⟩ => ⟨S2048x1, .i32⟩
  | .hbm, ⟨4, _⟩ => ⟨S2048x1, .f32⟩
  | .hbm, ⟨5, _⟩ => ⟨S2048, .f32⟩
  | .local _ .vmem, ⟨0, _⟩ => ⟨S4096x512, .f32⟩
  | .local _ .vmem, ⟨1, _⟩ => ⟨S4096x512, .f32⟩
  | .local _ .vmem, ⟨2, _⟩ => ⟨S2048x1, .i32⟩
  | .local _ .vmem, ⟨3, _⟩ => ⟨S2048x1, .f32⟩
  | .local _ .vmem, ⟨4, _⟩ => ⟨S2048x4096, .fp8e4m3⟩
  | .local _ .vmem, ⟨5, _⟩ => ⟨S2x512x4096, .f32⟩
  | .local _ .vmem, ⟨6, _⟩ => ⟨S2048x128, .f32⟩
  | .local _ .vmem, ⟨7, _⟩ => ⟨S2048x128, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev barrier0 : Sem sig := 0

abbrev nD : Nat := 16
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v60 : BitVec 1 := Scalar.cmpi .eq arg0 c15_i32
  let v61 : BitVec 32 := Scalar.extui v60
  let c0_i32_20 : BitVec 32 := 0#32
  let v62 : BitVec 1 := Scalar.cmpi .ne v61 c0_i32_20
  v62

def k0_dev1 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v76 : BitVec 32 := Scalar.muli v2 c8_i32_32
  let v77 : BitVec 32 := Scalar.addi c0_i32_33 v76
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_34 : BitVec 32 := 4#32
  let v78 : BitVec 32 := Scalar.muli v9 c4_i32_34
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v80 : BitVec 32 := Scalar.muli v8 c1_i32_35
  let v81 : BitVec 32 := Scalar.addi v79 v80
  v81.toNat
def k0_dev2 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v82 : BitVec 32 := Scalar.muli v2 c8_i32_39
  let v83 : BitVec 32 := Scalar.addi c0_i32_40 v82
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_41 : BitVec 32 := 4#32
  let v84 : BitVec 32 := Scalar.muli v9 c4_i32_41
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v86 : BitVec 32 := Scalar.muli v8 c1_i32_42
  let v87 : BitVec 32 := Scalar.addi v85 v86
  v87.toNat
def k0_dev3 (d0 : Dev nD) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v92 : BitVec 32 := Scalar.muli v2 c8_i32_45
  let v93 : BitVec 32 := Scalar.addi c0_i32_46 v92
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_47 : BitVec 32 := 4#32
  let v94 : BitVec 32 := Scalar.muli v9 c4_i32_47
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v96 : BitVec 32 := Scalar.muli v8 c1_i32_48
  let v97 : BitVec 32 := Scalar.addi v95 v96
  v97.toNat
def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S2048x4096 : Shape := ⟨2, ![2048, 4096]⟩
abbrev S4096x16384 : Shape := ⟨2, ![4096, 16384]⟩
abbrev S2048 : Shape := ⟨1, ![2048]⟩
abbrev S2048x16384 : Shape := ⟨2, ![2048, 16384]⟩
abbrev S_ : Shape := ⟨0, ![]⟩
abbrev S2048x1 : Shape := ⟨2, ![2048, 1]⟩
abbrev S2048x2 : Shape := ⟨2, ![2048, 2]⟩

abbrev nBuf : Space → Nat
  | .hbm => 36
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x16384, .f32⟩
  | .hbm, ⟨2, _⟩ => ⟨S2048, .i32⟩
  | .hbm, ⟨3, _⟩ => ⟨S2048x16384, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x16384, .f32⟩
  | .hbm, ⟨8, _⟩ => ⟨S2048x16384, .f32⟩
  | .hbm, ⟨9, _⟩ => ⟨S2048x16384, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048, .f32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S2048x1, .i32⟩
  | .hbm, ⟨33, _⟩ => ⟨S2048x2, .i32⟩
  | .hbm, ⟨34, _⟩ => ⟨S2048, .f32⟩
  | .hbm, ⟨35, _⟩ => ⟨S2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Base.lean ====
/-
  The names the proof of the kernel's run is written in: the algebra its ghost state lives in, the peer of a device,
  the memrefs of the scratch buffers, and points-to assertions through them.
-/
module

public import proofs.«01_k».proof.Proof.Gen.KernelIdeal.Frame
public import proofs.«01_k».proof.Proof.Gen.KernelIdeal.Skeleton
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Transfers
public import Idealize.ShloMosaic.Lib.StableHlo
public import Idealize.ShloMosaic.Lib.Tactic

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

/-- The ghost algebra: the pipeline's schedule, the exchange's schedule, and the counters of the local copies. -/
abbrev UU : Type := UR sig nD τ × (UR sig nD τ × Counters)

local notation "𝕄" => MT nD τ sig Unit (Elt F) ℕ UU ℕ

/-- The pipeline's part of the algebra. -/
abbrev EP : Emb (UR sig nD τ) (MT nD τ sig Unit (Elt F) ℕ UU ℕ) := embL
/-- The exchange's part of the algebra. -/
def ER : Emb (UR sig nD τ) (MT nD τ sig Unit (Elt F) ℕ UU ℕ) := (Emb.inl : Emb (UR sig nD τ) (UR sig nD τ × Counters)).trans embR
/-- The exchange's ghost state lies in the part of the state that may be stored. -/
instance ER_landsIn : (ER (F := F)).LandsIn upEmb := by unfold ER; infer_instance

/-- No variant is used. -/
abbrev 𝒱₀ : Variants := Variants.none

end Cert.KernelIdeal.Run

end
-- ==== Proof.Contents.lean ====
/-
  The contents the kernel's buffers hold along its run, as functions of the arrays it starts from: the quantised
  activations, the two accumulators after each vocabulary block, the row sums each device sends, and the result.
-/
module

public import proofs.«01_k».proof.Proof.Base

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The device that holds the other half of the vocabulary: the same place on the mesh, `y` flipped. -/
def pr (c : Dev nD) : Dev nD := ⟨(8 * (c.val / 8) + (c.val % 4) + 4) - 4 * ((c.val / 4) % 2), by
  have := c.isLt; unfold nD at *; omega⟩
/-- A device is its peer's peer. -/
theorem pr_pr (c : Dev nD) : pr (pr c) = c := by revert c; decide
/-- Taking the peer, as a permutation of the devices. -/
def flip : Dev nD ≃ Dev nD := ⟨pr, pr, pr_pr, pr_pr⟩

/-- The device's coordinate along `y`, as the body computes it. -/
def myY (c : Dev nD) : BitVec 32 := Scalar.remsi (Scalar.divsi (Dev.word c) 4#32) 2#32

/-- The activations as the kernel keeps them: eight times each, rounded to the narrow type. -/
def x8of (x : Vec F S2048x4096 .f32) : Vec F S2048x4096 .fp8e4m3 :=
  truncf .fp8e4m3 (mulf x (broadcast S2048x4096 (Scalar.ofBits .f32 0x41000000#32 : F .f32))) bitsLt_fp8e4m3_f32

/-- The activations device `c` keeps. -/
def X8 (c : Dev nD) : Vec F S2048x4096 .fp8e4m3 := x8of (V m c main_arg0)

/-- The running sums of exponentials after `n` vocabulary blocks. -/
def accS (c : Dev nD) : ℕ → Vec F S2048x128 .f32
  | 0 => k0_pay10
  | n + 1 => if h : n < cfg0.N then k0_pay13 (iblk m c 0 ⟨n, h⟩) (X8 m c) (accS c n) else accS c n

/-- The running sums of the labels' logits after `n` vocabulary blocks. -/
def accL (c : Dev nD) : ℕ → Vec F S2048x128 .f32
  | 0 => k0_pay11
  | n + 1 => if h : n < cfg0.N then
      k0_pay1 (BitVec.ofNat 32 n) (myY c) (k0_pay12 (iblk m c 0 ⟨n, h⟩) (X8 m c)) 8192#32 (iblk m c 1 ⟨n, h⟩) (accL c n)
    else accL c n

/-- One block more in the running sum of exponentials. -/
theorem accS_succ (c : Dev nD) (t : Fin cfg0.N) :
    accS m c (t.val + 1) = k0_pay13 (iblk m c 0 t) (X8 m c) (accS m c t.val) := dif_pos t.isLt
/-- One block more in the running sum of the labels' logits. -/
theorem accL_succ (c : Dev nD) (t : Fin cfg0.N) :
    accL m c (t.val + 1) = k0_pay1 (BitVec.ofNat 32 t.val) (myY c) (k0_pay12 (iblk m c 0 t) (X8 m c)) 8192#32 (iblk m c 1 t) (accL m c t.val) :=
  dif_pos t.isLt

/-- The row sums of exponentials device `c` sends. -/
def sumS (c : Dev nD) : Vec F S2048x1 .f32 := k0_pay6 (accS m c 16)
/-- The labels' logits device `c` sends. -/
def sumL (c : Dev nD) : Vec F S2048x1 .f32 := k0_pay7 (accL m c 16)
/-- The result on device `c`. -/
def outV (c : Dev nD) : Vec F S2048x1 .f32 := k0_pay2 (sumS m c) (sumS m (pr c)) (sumL m c) (sumL m (pr c))

end Cert.KernelIdeal.Run

end
-- ==== Proof.Protocol.lean ====
/-
  The protocol of the exchange: the cells, the schedule of what each unit of each semaphore hands over, the levels and
  debts, and the ghost state a device carries.
-/
module

public import proofs.«01_k».proof.Proof.Contents

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Cells -/

/-- The barrier's semaphore. -/
abbrev barS : Sem sig := (SemArray.scalar (sig.barrier 0 rfl) : Sems sig S_).sem
/-- The semaphore of the copies of `x` into the first slot. -/
abbrev ld0 : DmaSem sig := ⟨4, by decide⟩
/-- The semaphore of the copies of `x` into the second slot. -/
abbrev ld1 : DmaSem sig := ⟨5, by decide⟩
/-- The semaphore of the first remote copy's departure. -/
abbrev snd0 : DmaSem sig := ⟨6, by decide⟩
/-- The semaphore of the second remote copy's departure. -/
abbrev snd1 : DmaSem sig := ⟨7, by decide⟩
/-- The semaphore of the first remote copy's landing. -/
abbrev rcv0 : DmaSem sig := ⟨8, by decide⟩
/-- The semaphore of the second remote copy's landing. -/
abbrev rcv1 : DmaSem sig := ⟨9, by decide⟩

/-- A device's barrier cell. -/
abbrev barC (c : Dev nD) : GSem nD τ sig := ((c : Thread nD τ), .reg barS)
/-- A device's first send cell. -/
abbrev sndC0 (c : Dev nD) : GSem nD τ sig := ((c : Thread nD τ), .dma snd0)
/-- A device's second send cell. -/
abbrev sndC1 (c : Dev nD) : GSem nD τ sig := ((c : Thread nD τ), .dma snd1)
/-- A device's first receive cell. -/
abbrev rcvC0 (c : Dev nD) : GSem nD τ sig := ((c : Thread nD τ), .dma rcv0)
/-- A device's second receive cell. -/
abbrev rcvC1 (c : Dev nD) : GSem nD τ sig := ((c : Thread nD τ), .dma rcv1)

/-- The units a copied column of 2048 numbers pays. -/
abbrev N : ℕ := (Memref.whole cc0_scratch6 : Memref sig .tc .vmem S2048x1 .f32).view.dmaCredit
/-- A remote copy is worth something. -/
theorem N_pos : 0 < N := View.dmaCredit_pos _ (by decide)

/-- A buffer of device `c`, whole, at `f`. -/
abbrev pt (c : Dev nD) (b : Ref sig .tc) (f : b.ty.Contents (Elt F)) : sProp 𝕄 := (Memref.whole b).view.loc (c : Thread nD τ) ↦{fullShare} f
/-- The same through the whole view's own elements. -/
abbrev vpt (c : Dev nD) (b : Ref sig .tc) (f : b.ty.Contents (Elt F)) : sProp 𝕄 :=
  (Memref.whole b).view.loc (c : Thread nD τ) ↦[(Memref.whole b).view.set]{fullShare} f
/-- A whole buffer through its view is the buffer. -/
theorem vpt_eq (c : Dev nD) (b : Ref sig .tc) (f : b.ty.Contents (Elt F)) : vpt c b f = (pt c b f : sProp 𝕄) := by
  unfold vpt; rw [show (Memref.whole b).view.set = Finset.univ from View.set_whole _]

/-! ## The schedule -/

/-- Paid to device `c`'s barrier by its peer: the peer's two landing buffers, and that the round of each of the cells
    that will announce their filling is reached. -/
def barPay (c : Dev nD) : sProp 𝕄 :=
  iprop((∃ f, vpt (pr c) cc0_scratch6 f) ∗ (∃ f, vpt (pr c) cc0_scratch7 f) ∗ reached ER (rcvC0 (pr c)) 0 ∗ reached ER (rcvC1 (pr c)) 0)

/-- One duty on the barrier and on each of the four cells of the exchange, in the one round there is. The copies return
    what they read, and deliver the peer's sums. -/
def Rd : Rounds.Schedule (GSem nD τ sig) Unit 𝕄 where
  duties g r := if r = 0 ∧ g.1.2 = .tc ∧ (g.2 = .reg barS ∨ g.2 = .dma snd0 ∨ g.2 = .dma snd1 ∨ g.2 = .dma rcv0 ∨ g.2 = .dma rcv1) then {()} else ∅
  unitless _ := False
  amount g _ _ := if g.2 = .reg barS then 1 else N
  payload g _ _ :=
    if g.2 = .reg barS then barPay g.1.1
    else if g.2 = .dma snd0 then vpt g.1.1 cc0_scratch4 (sumS m g.1.1)
    else if g.2 = .dma snd1 then vpt g.1.1 cc0_scratch5 (sumL m g.1.1)
    else if g.2 = .dma rcv0 then vpt g.1.1 cc0_scratch6 (sumS m (pr g.1.1))
    else if g.2 = .dma rcv1 then vpt g.1.1 cc0_scratch7 (sumL m (pr g.1.1))
    else iprop(emp)
  amount_pos g _ _ _ := by
    by_cases h : g.2 = .reg barS
    · rw [if_pos h]; exact Nat.one_pos
    · rw [if_neg h]; exact N_pos

/-- Everything that a unit hands over may be stored in a cell. -/
instance Rd_payload_storable (g : GSem nD τ sig) (r : ℕ) (d : Unit) :
    BI.Storable (upEmb : UEmb _ 𝕄) ((Rd (F := F) m).payload g r d) := by
  show BI.Storable upEmb (if g.2 = .reg barS then barPay g.1.1
    else if g.2 = .dma snd0 then vpt g.1.1 cc0_scratch4 (sumS m g.1.1)
    else if g.2 = .dma snd1 then vpt g.1.1 cc0_scratch5 (sumL m g.1.1)
    else if g.2 = .dma rcv0 then vpt g.1.1 cc0_scratch6 (sumS m (pr g.1.1))
    else if g.2 = .dma rcv1 then vpt g.1.1 cc0_scratch7 (sumL m (pr g.1.1))
    else iprop(emp))
  unfold barPay
  (repeat' split) <;> infer_instance

section Sched

variable (c : Dev nD)

/-- A copy's semaphore is not the barrier's. -/
theorem dma_ne_bar (s : DmaSem sig) : (SemLoc.dma s : SemLoc sig) ≠ .reg barS := fun h => by cases h
/-- The barrier's semaphore is not a copy's. -/
theorem bar_ne_dma (s : DmaSem sig) : (.reg barS : SemLoc sig) ≠ SemLoc.dma s := fun h => by cases h

/-- The barrier has one duty. -/
theorem duties_bar : (Rd (F := F) m).duties (barC c) 0 = {()} := by dsimp only [Rd]; exact if_pos ⟨rfl, rfl, .inl rfl⟩
/-- The first send cell has one duty. -/
theorem duties_snd0 : (Rd (F := F) m).duties (sndC0 c) 0 = {()} := by dsimp only [Rd]; exact if_pos ⟨rfl, rfl, .inr (.inl rfl)⟩
/-- The second send cell has one duty. -/
theorem duties_snd1 : (Rd (F := F) m).duties (sndC1 c) 0 = {()} := by dsimp only [Rd]; exact if_pos ⟨rfl, rfl, .inr (.inr (.inl rfl))⟩
/-- The first receive cell has one duty. -/
theorem duties_rcv0 : (Rd (F := F) m).duties (rcvC0 c) 0 = {()} := by dsimp only [Rd]; exact if_pos ⟨rfl, rfl, .inr (.inr (.inr (.inl rfl)))⟩
/-- The second receive cell has one duty. -/
theorem duties_rcv1 : (Rd (F := F) m).duties (rcvC1 c) 0 = {()} := by dsimp only [Rd]; exact if_pos ⟨rfl, rfl, .inr (.inr (.inr (.inr rfl)))⟩
/-- After the first round there are no duties. -/
theorem duties_later (g : GSem nD τ sig) : ∀ r, 1 ≤ r → (Rd (F := F) m).duties g r = ∅ :=
  fun r hr => by dsimp only [Rd]; rw [if_neg (fun h => by omega)]

/-- The barrier's duty is one unit. -/
theorem amount_bar (u : Unit) : (Rd (F := F) m).amount (barC c) 0 u = 1 := by dsimp only [Rd]; exact if_pos rfl
/-- The first send cell's duty is a copy's worth. -/
theorem amount_snd0 (u : Unit) : (Rd (F := F) m).amount (sndC0 c) 0 u = N := by dsimp only [Rd]; exact if_neg (dma_ne_bar _)
/-- The second send cell's duty is a copy's worth. -/
theorem amount_snd1 (u : Unit) : (Rd (F := F) m).amount (sndC1 c) 0 u = N := by dsimp only [Rd]; exact if_neg (dma_ne_bar _)
/-- The first receive cell's duty is a copy's worth. -/
theorem amount_rcv0 (u : Unit) : (Rd (F := F) m).amount (rcvC0 c) 0 u = N := by dsimp only [Rd]; exact if_neg (dma_ne_bar _)
/-- The second receive cell's duty is a copy's worth. -/
theorem amount_rcv1 (u : Unit) : (Rd (F := F) m).amount (rcvC1 c) 0 u = N := by dsimp only [Rd]; exact if_neg (dma_ne_bar _)

/-- The barrier expects one unit. -/
theorem expect_bar : (Rd (F := F) m).expect (barC c) 0 = 1 := by
  unfold Schedule.expect Schedule.amountOf; rw [duties_bar, Finset.sum_singleton, amount_bar]
/-- The first send cell expects a copy's worth. -/
theorem expect_snd0 : (Rd (F := F) m).expect (sndC0 c) 0 = N := by
  unfold Schedule.expect Schedule.amountOf; rw [duties_snd0, Finset.sum_singleton, amount_snd0]
/-- The second send cell expects a copy's worth. -/
theorem expect_snd1 : (Rd (F := F) m).expect (sndC1 c) 0 = N := by
  unfold Schedule.expect Schedule.amountOf; rw [duties_snd1, Finset.sum_singleton, amount_snd1]
/-- The first receive cell expects a copy's worth. -/
theorem expect_rcv0 : (Rd (F := F) m).expect (rcvC0 c) 0 = N := by
  unfold Schedule.expect Schedule.amountOf; rw [duties_rcv0, Finset.sum_singleton, amount_rcv0]
/-- The second receive cell expects a copy's worth. -/
theorem expect_rcv1 : (Rd (F := F) m).expect (rcvC1 c) 0 = N := by
  unfold Schedule.expect Schedule.amountOf; rw [duties_rcv1, Finset.sum_singleton, amount_rcv1]

/-- What the barrier's unit hands over. -/
theorem payload_bar (u : Unit) : (Rd (F := F) m).payload (barC c) 0 u = barPay c := by dsimp only [Rd]; exact if_pos rfl
/-- What the first send cell gives back: the sum sent. -/
theorem payload_snd0 (u : Unit) : (Rd (F := F) m).payload (sndC0 c) 0 u = vpt c cc0_scratch4 (sumS m c) := by
  dsimp only [Rd]; rw [if_neg (dma_ne_bar _), if_pos rfl]
/-- What the second send cell gives back: the sum sent. -/
theorem payload_snd1 (u : Unit) : (Rd (F := F) m).payload (sndC1 c) 0 u = vpt c cc0_scratch5 (sumL m c) := by
  dsimp only [Rd]; rw [if_neg (dma_ne_bar _), if_neg (by decide), if_pos rfl]
/-- What the first receive cell gives: the peer's sum of exponentials. -/
theorem payload_rcv0 (u : Unit) : (Rd (F := F) m).payload (rcvC0 c) 0 u = vpt c cc0_scratch6 (sumS m (pr c)) := by
  dsimp only [Rd]; rw [if_neg (dma_ne_bar _), if_neg (by decide), if_neg (by decide), if_pos rfl]
/-- What the second receive cell gives: the peer's labels' logits. -/
theorem payload_rcv1 (u : Unit) : (Rd (F := F) m).payload (rcvC1 c) 0 u = vpt c cc0_scratch7 (sumL m (pr c)) := by
  dsimp only [Rd]; rw [if_neg (dma_ne_bar _), if_neg (by decide), if_neg (by decide), if_neg (by decide), if_pos rfl]

/-- All that the barrier's round hands over. -/
theorem rest_bar : bigSep ((Rd (F := F) m).duties (barC c) 0 \ ∅) (fun u => (Rd (F := F) m).payload (barC c) 0 u) = barPay c := by
  rw [Finset.sdiff_empty, duties_bar, bigSep_singleton, payload_bar]
/-- All that the first send cell's round hands over. -/
theorem rest_snd0 : bigSep ((Rd (F := F) m).duties (sndC0 c) 0 \ ∅) (fun u => (Rd (F := F) m).payload (sndC0 c) 0 u) = vpt c cc0_scratch4 (sumS m c) := by
  rw [Finset.sdiff_empty, duties_snd0, bigSep_singleton, payload_snd0]
/-- All that the second send cell's round hands over. -/
theorem rest_snd1 : bigSep ((Rd (F := F) m).duties (sndC1 c) 0 \ ∅) (fun u => (Rd (F := F) m).payload (sndC1 c) 0 u) = vpt c cc0_scratch5 (sumL m c) := by
  rw [Finset.sdiff_empty, duties_snd1, bigSep_singleton, payload_snd1]
/-- All that the first receive cell's round hands over. -/
theorem rest_rcv0 : bigSep ((Rd (F := F) m).duties (rcvC0 c) 0 \ ∅) (fun u => (Rd (F := F) m).payload (rcvC0 c) 0 u) = vpt c cc0_scratch6 (sumS m (pr c)) := by
  rw [Finset.sdiff_empty, duties_rcv0, bigSep_singleton, payload_rcv0]
/-- All that the second receive cell's round hands over. -/
theorem rest_rcv1 : bigSep ((Rd (F := F) m).duties (rcvC1 c) 0 \ ∅) (fun u => (Rd (F := F) m).payload (rcvC1 c) 0 u) = vpt c cc0_scratch7 (sumL m (pr c)) := by
  rw [Finset.sdiff_empty, duties_rcv1, bigSep_singleton, payload_rcv1]

end Sched

/-! ## Debts and levels -/

/-- What the device owes once it has signalled: the credit of its two copies into the peer. -/
def O₁ (c : Dev nD) : CellTallies nD τ sig Unit := tallyAt (rcvC0 (pr c)) () N + tallyAt (rcvC1 (pr c)) () N
/-- What it owes from the launch on: that, and the peer's barrier unit. -/
def O₀ (c : Dev nD) : CellTallies nD τ sig Unit := O₁ c + tallyAt (barC (pr c)) () 1

/-- The kinds of credit at a cell. -/
def L (g : GSem nD τ sig) : Finset Unit := if g.1.2 = .tc then {()} else ∅
/-- The barrier lies below the landing cells; everything else at the bottom. -/
def lv (g : GSem nD τ sig) (_ : Unit) : ℕ := if g.2 = .reg barS then 1 else if g.2 = .dma rcv0 ∨ g.2 = .dma rcv1 then 2 else 0

/-- There are none away from the devices' main threads. -/
theorem L_of_ne (g : GSem nD τ sig) (h : g.1.2 ≠ .tc) : L g = ∅ := if_neg h
/-- There is one kind on them. -/
theorem L_tc (c : Dev nD) (sm : SemLoc sig) : L ((c : Thread nD τ), sm) = {()} := if_pos rfl

/-- A tally at one cell is positive there alone. -/
theorem tallyAt_pos {g g' : GSem nD τ sig} {u : Unit} {n : ℕ} (h : 0 < tallyAt g () n g' u) : g' = g := by
  rw [tallyAt_apply] at h
  by_cases h' : g' = g ∧ u = ()
  · exact h'.1
  · rw [if_neg h'] at h; exact absurd h (Nat.lt_irrefl 0)

/-- After its signal a device owes only its two copies. -/
theorem O₁_pos {c : Dev nD} {g : GSem nD τ sig} {u : Unit} (h : 0 < O₁ c g u) : g = rcvC0 (pr c) ∨ g = rcvC1 (pr c) := by
  have h' : 0 < tallyAt (rcvC0 (pr c)) () N g u + tallyAt (rcvC1 (pr c)) () N g u := h
  rcases Nat.add_pos_iff_pos_or_pos.mp h' with h | h
  · exact .inl (tallyAt_pos h)
  · exact .inr (tallyAt_pos h)
/-- At the start it owes its two copies and its signal. -/
theorem O₀_pos {c : Dev nD} {g : GSem nD τ sig} {u : Unit} (h : 0 < O₀ c g u) :
    g = rcvC0 (pr c) ∨ g = rcvC1 (pr c) ∨ g = barC (pr c) := by
  have h' : 0 < O₁ c g u + tallyAt (barC (pr c)) () 1 g u := h
  rcases Nat.add_pos_iff_pos_or_pos.mp h' with h | h
  · rcases O₁_pos h with h | h
    · exact .inl h
    · exact .inr (.inl h)
  · exact .inr (.inr (tallyAt_pos h))

/-- A device may wait on its barrier while it owes its two copies. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact (L_tc _ _).symm ▸ Finset.mem_singleton_self _)
    (fun p hp => by rw [Finset.mem_singleton.mp hp]; dsimp only [lv]; rw [if_pos rfl])
    (fun g u hg => by rcases O₁_pos hg with rfl | rfl <;> exact (by decide : 1 < 2))

/-- A device may wait for a local copy, or for a copy of the pipeline's, while it owes all it owes. -/
theorem mayWait_low (c : Dev nD) (s : DmaSem sig) (hs : s.val < 8) :
    (levAts L lv : sProp 𝕄) ⊢ MayWait (c : Thread nD τ) (.dma s) () (O₀ c) :=
  MayOwe.of_cut (L := L) (lev := lv) 0 (fun p hp => by rw [Finset.mem_singleton.mp hp, L_tc]; exact Finset.mem_singleton_self _)
    (fun g u hg => by rcases O₀_pos hg with rfl | rfl | rfl <;> exact (L_tc _ _).symm ▸ Finset.mem_singleton_self _)
    (fun p hp => by
      rw [Finset.mem_singleton.mp hp]; dsimp only [lv]
      rw [if_neg (dma_ne_bar _), if_neg]
      rintro (h | h) <;> (have := congrArg Fin.val (SemLoc.dma.inj h); dsimp only at this; omega))
    (fun g u hg => by rcases O₀_pos hg with rfl | rfl | rfl <;> first | exact (by decide : 0 < 2) | exact (by decide : 0 < 1))

/-! ## Ghost state -/

/-- The invariants device `c` opens: its own five cells, and its peer's barrier and landing cells. -/
def invs (K : GSem nD τ sig → ℕ) (c : Dev nD) : sProp 𝕄 :=
  iprop(cellInv ER (Rd m) (K (barC c)) (barC c) ∗ cellInv ER (Rd m) (K (sndC0 c)) (sndC0 c) ∗ cellInv ER (Rd m) (K (sndC1 c)) (sndC1 c)
    ∗ cellInv ER (Rd m) (K (rcvC0 c)) (rcvC0 c) ∗ cellInv ER (Rd m) (K (rcvC1 c)) (rcvC1 c)
    ∗ cellInv ER (Rd m) (K (barC (pr c))) (barC (pr c)) ∗ cellInv ER (Rd m) (K (rcvC0 (pr c))) (rcvC0 (pr c))
    ∗ cellInv ER (Rd m) (K (rcvC1 (pr c))) (rcvC1 (pr c)))
/-- The cells' invariants may be used any number of times. -/
instance invs_persistent (K : GSem nD τ sig → ℕ) (c : Dev nD) : BI.Persistent (invs m K c) := by unfold invs; infer_instance

/-- The duties device `c` is to pay. -/
def toks (c : Dev nD) : sProp 𝕄 :=
  iprop(dutyTok ER (barC (pr c)) 0 () ∗ dutyTok ER (rcvC0 (pr c)) 0 () ∗ dutyTok ER (rcvC1 (pr c)) 0 ()
    ∗ dutyTok ER (sndC0 c) 0 () ∗ dutyTok ER (sndC1 c) 0 ())

/-- From the launch to the kernel: the invariants, the position on the barrier, the right to open the four scoped cells,
    the duties. -/
def ghost (K : GSem nD τ sig → ℕ) (c : Dev nD) : sProp 𝕄 :=
  iprop(invs m K c ∗ atPos ER (barC c) 0 ∅ 0
    ∗ (openTok ER (sndC0 c) ∗ openTok ER (sndC1 c) ∗ openTok ER (rcvC0 c) ∗ openTok ER (rcvC1 c))
    ∗ reached ER (barC (pr c)) 0 ∗ toks c)

/-- The credit device `c` waits with. -/
def creds (c : Dev nD) : sProp 𝕄 :=
  iprop(cred (tallyAt (barC c) () 1) ∗ cred (tallyAt (rcvC0 c) () N) ∗ cred (tallyAt (rcvC1 c) () N))

/-- Inside the kernel, with the four scoped cells open. -/
def opened (K : GSem nD τ sig → ℕ) (c : Dev nD) : sProp 𝕄 :=
  iprop(invs m K c ∗ atPos ER (barC c) 0 ∅ 0
    ∗ (atPos ER (sndC0 c) 0 ∅ 0 ∗ atPos ER (sndC1 c) 0 ∅ 0 ∗ atPos ER (rcvC0 c) 0 ∅ 0 ∗ atPos ER (rcvC1 c) 0 ∅ 0)
    ∗ (reached ER (barC (pr c)) 0 ∗ reached ER (sndC0 c) 0 ∗ reached ER (sndC1 c) 0 ∗ reached ER (rcvC0 c) 0 ∗ reached ER (rcvC1 c) 0)
    ∗ toks c)

/-- A cell whose round is over gives its counter back, at zero. -/
theorem close (κ : ℕ) (g : GSem nD τ sig) :
    iprop(cellInv ER (Rd m) κ g ∗ atPos ER g (0 + 1) ∅ 0) ⊢ (|={Set.univ}=> semVal g 0 : sProp 𝕄) :=
  Rounds.cell_close ER (Rd m) (Set.mem_univ κ) id (duties_later m g)

end Cert.KernelIdeal.Run

end
-- ==== Proof.Data.lean ====
/-
  What the pipeline's proof knows at each grid point: the contents of the scratch buffers, the ghost state of the
  exchange, what the device owes, and what the windows hold.
-/
module

public import proofs.«01_k».proof.Proof.Protocol
public import Idealize.ShloMosaic.Lib.Pipeline.FrameBody
public import Idealize.ShloMosaic.Lib.Pipeline.RegionTalk

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ
variable (m : (ℓ : Loc nD τ sig) → Buf (Elt F) ℓ)

/-! ## The invariant -/

/-- A buffer of device `c`, whole, at some contents. -/
def any (c : Dev nD) (b : Ref sig .tc) : sProp 𝕄 := iprop(∃ f, pt c b f)

/-- What no grid point changes, or only overwrites: the activations, the generator register, the counters of the local
    copies, the buffers nothing is remembered of. -/
def base (c : Dev nD) : sProp 𝕄 :=
  iprop(pt c main_arg0 (V m c main_arg0) ∗ (∃ r, prngReg c r) ∗ semVal ((c : Thread nD τ), .dma ld0) 0 ∗ semVal ((c : Thread nD τ), .dma ld1) 0
    ∗ any c cc0_scratch1 ∗ any c cc0_scratch4 ∗ any c cc0_scratch5 ∗ any c cc0_scratch6 ∗ any c cc0_scratch7)

/-- The exchange still to come. -/
def talk (c : Dev nD) : sProp 𝕄 := iprop((∃ K, opened m K c) ∗ creds c ∗ levAts L lv)

/-- The exchange over: every counter of it at zero. -/
def quiet (c : Dev nD) : sProp 𝕄 :=
  iprop(semVal (barC c) 0 ∗ semVal (sndC0 c) 0 ∗ semVal (sndC1 c) 0 ∗ semVal (rcvC0 c) 0 ∗ semVal (rcvC1 c) 0)

/-- What is held before the first point: scratch buffers with any contents, the exchange not begun. -/
def phi0 (c : Dev nD) : sProp 𝕄 := iprop(base m c ∗ talk m c ∗ any c cc0_scratch0 ∗ any c cc0_scratch2 ∗ any c cc0_scratch3)
/-- What is held after `n` points: the scaled `x` and the two running sums, the exchange not begun. -/
def phiMid (c : Dev nD) (n : ℕ) : sProp 𝕄 :=
  iprop(base m c ∗ talk m c ∗ pt c cc0_scratch0 (X8 m c) ∗ pt c cc0_scratch2 (accS m c n) ∗ pt c cc0_scratch3 (accL m c n))
/-- What is held after the last point: the exchange done. -/
def phiEnd (c : Dev nD) : sProp 𝕄 := iprop(base m c ∗ quiet c ∗ any c cc0_scratch0 ∗ any c cc0_scratch2 ∗ any c cc0_scratch3)

/-- The invariant before point `n`. -/
def phi (c : Dev nD) (n : ℕ) : sProp 𝕄 := if n = 0 then phi0 m c else if n < 16 then phiMid m c n else phiEnd m c

/-- What is held at the start. -/
theorem phi_zero (c : Dev nD) : phi m c 0 = phi0 m c := if_pos rfl
/-- What is held between. -/
theorem phi_mid (c : Dev nD) {n : ℕ} (h0 : n ≠ 0) (h : n < 16) : phi m c n = phiMid m c n := by unfold phi; rw [if_neg h0, if_pos h]
/-- What is held at the end. -/
theorem phi_end (c : Dev nD) {n : ℕ} (h : 16 ≤ n) : phi m c n = phiEnd m c := by
  unfold phi; rw [if_neg (by omega), if_neg (by omega)]

/-- What the device owes before point `n`. -/
def owing (c : Dev nD) (n : ℕ) : CellTallies nD τ sig Unit := if n < 16 then O₀ c else 0
/-- Until the last point is done a device owes its signal and its two copies. -/
theorem owing_lt (c : Dev nD) {n : ℕ} (h : n < 16) : owing c n = O₀ c := if_pos h
/-- After it a device owes nothing. -/
theorem owing_end (c : Dev nD) {n : ℕ} (h : 16 ≤ n) : owing c n = 0 := if_neg (by omega)

/-! ## The pipeline's data -/

/-- The pipeline's data: the arrays, the windows' buffers after each point, what is held and what is owed. -/
def dat (c : Dev nD) : Dat τ (Elt F) Unit ℕ UU ℕ cfg0 c where
  A w := V m c (Pipeline.arrRef spec0 w)
  after := fun | 0 => fun t => iblk m c 0 t | 1 => fun t => iblk m c 1 t | 2 => fun _ => outV m c | ⟨_ + 3, h⟩ => absurd h (Nat.not_lt.2 (Nat.le_add_left _ _))
  Φ t := phi m c t.val
  q _ := fullShare
  owed t := owing c t.val

/-- The pipeline is admissible. -/
abbrev adm : (p : Fin 1) → (pcfgs (F := F) p).Adm := fun p => (cfgs p).toPCfg_adm
/-- The data of the program's one pipeline. -/
def pdats : (p : Fin 1) → (c : Dev nD) → Dat τ (Elt F) Unit ℕ UU ℕ (Pipeline.pin (pcfgs (F := F)) adm p) c
  | 0 => dat m

/-- What is held before a point. -/
theorem Phi_castSucc (c : Dev nD) (t : Fin cfg0.N) : (dat m c).Φ t.castSucc = phi m c t.val := rfl
/-- What is held after a point. -/
theorem Phi_succ (c : Dev nD) (t : Fin cfg0.N) : (dat m c).Φ t.succ = phi m c (t.val + 1) := rfl
/-- What is owed before a point. -/
theorem owed_castSucc (c : Dev nD) (t : Fin cfg0.N) : (dat m c).owed t.castSucc = owing c t.val := rfl
/-- What is owed after a point. -/
theorem owed_succ (c : Dev nD) (t : Fin cfg0.N) : (dat m c).owed t.succ = owing c (t.val + 1) := rfl

/-- The weight window holds its block at every point. -/
theorem before_0 (c : Dev nD) (t : Fin cfg0.N) (d) : (dat m c).before 0 t d = iblk m c 0 t :=
  ((dat m c).before_in_eq_fetched 0 rfl (fun _ => rfl) (fun _ _ _ => rfl) (fun t => rfl) t d).trans rfl
/-- The label window holds the labels at every point. -/
theorem before_1 (c : Dev nD) (t : Fin cfg0.N) (d) : (dat m c).before 1 t d = iblk m c 1 t :=
  ((dat m c).before_in_eq_fetched 1 rfl (fun _ => rfl) (fun _ _ _ => rfl) (fun t => rfl) t d).trans rfl

/-- Owing `O` is what the loop keeps of it, waits unrestricted. -/
theorem owes_into {c : Dev nD} (t : Fin (cfg0.N + 1)) {O : CellTallies nD τ sig Unit} (h0 : (dat m c).owed t = O) (W : Waits sig Unit) :
    (owes (c : Thread nD τ) O W : sProp 𝕄) ⊢ ((dat m c).owesAt () t : sProp 𝕄) := by
  unfold Dat.owesAt Pipeline.owesWithin Dat.bound
  rw [h0, show (dat m c).recorded t = Set.univ from rfl]
  iintro HO; iexists W; isplitr
  · ipureintro; exact fun _ _ => Or.inl trivial
  iexact HO
/-- And back. -/
theorem owes_from {c : Dev nD} (t : Fin (cfg0.N + 1)) {O : CellTallies nD τ sig Unit} (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

end Cert.KernelIdeal.Run

end
-- ==== Proof.Mid.lean ====
/-
  The body at a middle grid point, and how a load or a store of a whole buffer reads.
-/
module

public import proofs.«01_k».proof.Proof.Protocol
public import Idealize.ShloMosaic.Lib.Pipeline.Value
public import Idealize.ShloMosaic.Lib.Pipeline.FrameBody

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

/-- The first grid point's condition, as the body computes it. -/
abbrev cond1 (i : grid0.Coords) : Prop :=
  (Scalar.cmpi .ne (Scalar.extui (Scalar.cmpi .eq (BitVec.ofNat 32 (i 0).val) 0#32) : BitVec 32) 0#32 : BitVec 1) = 1#1

/-- The offset (0, 0) is zero on every axis. -/
theorem zz : (![0, 0] : Fin 2 → Nat) = fun _ => 0 := funext fun a => by fin_cases a <;> rfl

/-- A load of all of a staging buffer reads what the buffer was filled with. -/
theorem rd {sp : Space} {s : Shape} {e : EltTy} {a : Memref sig .tc sp s e} (ha : a.IsWhole) {off : Fin s.rank → Nat} (ho : off = fun _ => 0)
    (inb : ∀ b, off b + s.size b ≤ s.size b) (w : s.Idx → Elt F e) :
    a.view.readAt (Elt F) (Rect.unit off s.size inb).toLoadRect (ha.unread w) = w := by
  rw [View.readAt_eq_ld, ha.read_unread, View.ld_unit_zero (S := s) ho]

/-- A load of all of a scratch buffer reads its contents. -/
theorem rdw (b : Ref sig .tc) {off : Fin b.ty.shape.rank → Nat} (ho : off = fun _ => 0)
    (inb : ∀ a, off a + b.ty.shape.size a ≤ b.ty.shape.size a) (f : b.ty.Contents (Elt F)) :
    (View.whole b).readAt (Elt F) (Rect.unit off b.ty.shape.size inb).toLoadRect f = f := Memref.readAt_unit_zero (Elt F) b ho inb f

/-- A store over all of a scratch buffer leaves what it stored. -/
theorem wrw (b : Ref sig .tc) {off : Fin b.ty.shape.rank → Nat} (ho : off = fun _ => 0)
    (inb : ∀ a, off a + b.ty.shape.size a ≤ b.ty.shape.size a) (f w : b.ty.Contents (Elt F)) :
    ((View.whole b).slice (Rect.unit off b.ty.shape.size inb)).write (Elt F) f w Finset.univ = w := Memref.write_access_unit_zero_univ (Elt F) b ho inb f w

/-- Respelling the contents of a buffer. -/
theorem re {c : Dev nD} {b : Ref sig .tc} {f g : b.ty.Contents (Elt F)} (h : f = g) : (pt c b f : sProp 𝕄) ⊢ pt c b g := Entails.of_eq (by rw [h])

/-- The accumulation of exponentials, from equal arguments. -/
theorem pay13_congr {w w' : Vec F S4096x512 .f32} {x x' : Vec F S2048x4096 .fp8e4m3} {s s' : Vec F S2048x128 .f32}
    (hw : w = w') (hx : x = x') (hs : s = s') : k0_pay13 w x s = k0_pay13 w' x' s' := by rw [hw, hx, hs]
/-- The accumulation of the labels' logits, from equal arguments. -/
theorem pay1_congr {a b n : BitVec 32} {w w' : Vec F S4096x512 .f32} {x x' : Vec F S2048x4096 .fp8e4m3} {r r' : Vec F S2048x1 .i32}
    {s s' : Vec F S2048x128 .f32} (hw : w = w') (hx : x = x') (hr : r = r') (hs : s = s') :
    k0_pay1 a b (k0_pay12 w x) n r s = k0_pay1 a b (k0_pay12 w' x') n r' s' := by rw [hw, hx, hr, hs]

/-- A grid point that is neither the first nor the last: the block's exponentials and labels' logits are added to the
    two accumulators. -/
theorem run_mid (c : Dev nD) (i : grid0.Coords) (h1 : ¬ cond1 i) (h2 : ¬ k0_cond2 i = 1#1)
    (a2 : Memref sig .tc .vmem S4096x512 .f32) (ha2 : a2.IsWhole) (a3 : Memref sig .tc .vmem S2048x1 .i32) (ha3 : a3.IsWhole)
    (a4 : Memref sig .tc .vmem S2048x1 .f32) (ha4 : a4.IsWhole) (w : Vec F S4096x512 .f32) (lab : Vec F S2048x1 .i32)
    (x8 : Vec F S2048x4096 .fp8e4m3) (sa la : Vec F S2048x128 .f32) :
    iprop((a2.view.loc (c : Thread nD τ) ↦[a2.view.set]{fullShare} ha2.unread w)
        ∗ (a3.view.loc (c : Thread nD τ) ↦[a3.view.set]{fullShare} ha3.unread lab)
        ∗ (((Memref.whole cc0_scratch0).view.loc (c : Thread nD τ)) ↦{fullShare} x8)
        ∗ (((Memref.whole cc0_scratch2).view.loc (c : Thread nD τ)) ↦{fullShare} sa)
        ∗ (((Memref.whole cc0_scratch3).view.loc (c : Thread nD τ)) ↦{fullShare} la))
      ⊢ wp frame (wpE (defs₀ (F := F)) 𝒱₀ (c : Thread nD τ) none) Set.univ
          (cc0_body i (Memref.whole main_arg0) (Memref.isWhole_whole _) a2 ha2 a3 ha3 a4 ha4
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10)
          (fun _ => iprop((a2.view.loc (c : Thread nD τ) ↦[a2.view.set]{fullShare} ha2.unread w)
        ∗ (a3.view.loc (c : Thread nD τ) ↦[a3.view.set]{fullShare} ha3.unread lab)
        ∗ (((Memref.whole cc0_scratch0).view.loc (c : Thread nD τ)) ↦{fullShare} x8)
        ∗ (((Memref.whole cc0_scratch2).view.loc (c : Thread nD τ)) ↦{fullShare} (k0_pay13 w x8 sa : Vec F S2048x128 .f32))
        ∗ (((Memref.whole cc0_scratch3).view.loc (c : Thread nD τ)) ↦{fullShare} (k0_pay1 (BitVec.ofNat 32 (i 0).val) (myY c) (k0_pay12 w x8) 8192#32 lab la : Vec F S2048x128 .f32))) : PUnit → sProp 𝕄) := by
  iintro ⟨H2, H3, Hx, Hs, Hl⟩
  sl_unfold [cc0_body]
  sl_exec
  sl_step
  isplitl [H2]; · iexact H2
  isplitl [H3]; · iexact H3
  isplitl [Hx]; · iexact Hx
  isplitl [Hs]
  · iapply (re (c := c) (b := cc0_scratch2) ?_) $$ Hs
    sl_unfold_words
    simp only [View.writes_cons, View.writes_nil]
    exact (wrw cc0_scratch2 zz _ _ _).trans (pay13_congr (rd ha2 zz _ _) (rdw cc0_scratch0 zz _ _) (rdw cc0_scratch2 zz _ _))
  · iapply (re (c := c) (b := cc0_scratch3) ?_) $$ Hl
    sl_unfold_words
    simp only [View.writes_cons, View.writes_nil]
    refine (wrw cc0_scratch3 zz _ _ _).trans ?_
    exact pay1_congr (rd ha2 zz _ _) (rdw cc0_scratch0 zz _ _) (rd ha3 zz _ _) (rdw cc0_scratch3 zz _ _)

end Cert.KernelIdeal.Run

end
-- ==== Proof.Stage.lean ====
/-
  How the first grid point's copies and casts fill the quantised activations: a slot of the staging buffer reads what was
  last copied into it, a chunk is quantised entry by entry, and the four chunks are the whole.
-/
module

public import proofs.«01_k».proof.Proof.Mid
public import Idealize.ShloMosaic.Lib.ViewIndex

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

/-- The rows of the activations from row `o` on, 512 of them. -/
abbrev chunk (o : ℕ) (h : ∀ a, (![o, 0] : Fin 2 → ℕ) a + (![512, 4096] : Fin 2 → ℕ) a ≤ S2048x4096.size a) : Rect S2048x4096 :=
  Rect.unit (s := S2048x4096) ![o, 0] ![512, 4096] h

/-- Eight times each entry, rounded to the narrow type. -/
def q8 (u : Vec F S512x4096 .f32) : Vec F S512x4096 .fp8e4m3 :=
  truncf .fp8e4m3 (mulf u (broadcast S512x4096 (Scalar.ofBits .f32 0x41000000#32 : F .f32))) bitsLt_fp8e4m3_f32

/-- A slot reads what was copied into it last. -/
theorem slot_same (r : Rect S2x512x4096) (h : S512x4096.numel = r.shape.numel) (hc : r.shape.ShapeCasts S512x4096)
    (f : Vec F S2x512x4096 .f32) (w : Vec F S512x4096 .f32) :
    shapeCast S512x4096 ((View.whole cc0_scratch1).readAt (Elt F) r.toLoadRect
      ((((View.whole cc0_scratch1).slice r).reshape S512x4096 h).write (Elt F) f w Finset.univ)) hc = w :=
  funext fun z => View.read_write_reshape ((View.whole cc0_scratch1).slice r) h f w z

/-- A copy into one slot leaves what the other reads. -/
theorem slot_other (r r' : Rect S2x512x4096) (h : S512x4096.numel = r'.shape.numel) (hd : Disjoint r.set r'.set)
    (f : Vec F S2x512x4096 .f32) (w : Vec F S512x4096 .f32) :
    (View.whole cc0_scratch1).readAt (Elt F) r.toLoadRect
      ((((View.whole cc0_scratch1).slice r').reshape S512x4096 h).write (Elt F) f w Finset.univ)
      = (View.whole cc0_scratch1).readAt (Elt F) r.toLoadRect f := by
  show ((View.whole cc0_scratch1).slice r).read (Elt F) _ = ((View.whole cc0_scratch1).slice r).read (Elt F) f
  refine View.read_congr fun i hi => View.write_of_not_mem _ _ _ fun hm => ?_
  rw [View.setOn_univ, View.set_reshape, View.set_slice_whole] at hm
  rw [View.set_slice_whole] at hi
  exact Finset.disjoint_left.mp hd hi hm

/-- The first chunk is stored scaled. -/
theorem pay3_q8 (v : Vec F S1x512x4096 .f32) (u : Vec F S512x4096 .f32) (h : shapeCast S512x4096 v shapeCasts_S1x512x4096_S512x4096 = u) :
    k0_pay3 v = q8 u := by
  subst h; exact shapeCast_self _ _
/-- The second chunk is stored scaled. -/
theorem pay4_q8 (v : Vec F S1x512x4096 .f32) (u : Vec F S512x4096 .f32) (h : shapeCast S512x4096 v shapeCasts_S1x512x4096_S512x4096 = u) :
    k0_pay4 v = q8 u := by
  subst h; exact shapeCast_self _ _
/-- The third chunk is stored scaled. -/
theorem pay8_q8 (v : Vec F S1x512x4096 .f32) (u : Vec F S512x4096 .f32) (h : shapeCast S512x4096 v shapeCasts_S1x512x4096_S512x4096 = u) :
    k0_pay8 (k0_pay5 v) (FloatOps.ofBits .f32 0x41000000#32) = q8 u := by
  subst h; exact shapeCast_self _ _
/-- The fourth chunk is stored scaled. -/
theorem pay9_q8 (v : Vec F S1x512x4096 .f32) (u : Vec F S512x4096 .f32) (h : shapeCast S512x4096 v shapeCasts_S1x512x4096_S512x4096 = u) :
    k0_pay9 v = q8 u := by
  subst h; exact shapeCast_self _ _

/-- A chunk quantised is the chunk of the quantised activations. -/
theorem q8_chunk (x : Vec F S2048x4096 .f32) (o : ℕ) (h) (z : (chunk o h).shape.Idx) :
    q8 ((ReadAs.same (Val := Elt F)).apply (((View.whole main_arg0).slice (chunk o h)).read (Elt F) x)) z = x8of x ((chunk o h).emb z) := rfl

/-- The four chunks of the activations. -/
abbrev chunks (p0 p1 p2 p3 : Vec F S512x4096 .fp8e4m3) : List (View.Piece (Elt F) S2048x4096 .fp8e4m3) :=
  [⟨chunk 1536 inb_S2048x4096_S512x4096_1536_0, p3⟩, ⟨chunk 1024 inb_S2048x4096_S512x4096_1024_0, p2⟩,
    ⟨chunk 512 inb_S2048x4096_S512x4096_512_0, p1⟩, ⟨chunk 0 inb_S2048x4096_S512x4096_0_0, p0⟩]

variable (x : Vec F S2048x4096 .f32) (p0 p1 p2 p3 : Vec F S512x4096 .fp8e4m3)

/-- The four chunks cover all rows. -/
theorem chunks_cover (y : S2048x4096.Idx) : ∃ p ∈ chunks p0 p1 p2 p3, y ∈ p.1.set :=
  View.cover_of_tiled _ ![512, 4096] (by rfl) y

/-- What a chunk of the activations reads. -/
abbrev xch (o : ℕ) (h : ∀ a, (![o, 0] : Fin 2 → ℕ) a + (![512, 4096] : Fin 2 → ℕ) a ≤ S2048x4096.size a) : Vec F S512x4096 .f32 := (ReadAs.same (Val := Elt F)).apply (((View.whole main_arg0).slice (chunk o h)).read (Elt F) x)

/-- The four scaled chunks together are the scaled `x`. -/
theorem chunks_canon
    (h0 : p0 = q8 (xch x 0 inb_S2048x4096_S512x4096_0_0)) (h1 : p1 = q8 (xch x 512 inb_S2048x4096_S512x4096_512_0))
    (h2 : p2 = q8 (xch x 1024 inb_S2048x4096_S512x4096_1024_0)) (h3 : p3 = q8 (xch x 1536 inb_S2048x4096_S512x4096_1536_0)) :
    View.canon (chunks p0 p1 p2 p3) = x8of x := funext fun y => by
  refine View.canon_apply_of_pieces (x8of x) _ (fun p hp z => ?_) y (chunks_cover p0 p1 p2 p3 y)
  subst h0 h1 h2 h3
  simp only [List.mem_cons, List.not_mem_nil, or_false] at hp
  rcases hp with rfl | rfl | rfl | rfl <;> exact q8_chunk x _ _ z

/-- Four quantised chunks stored leave the quantised activations, -/
theorem chunks_writes (f0 : Vec F S2048x4096 .fp8e4m3)
    (h0 : p0 = q8 (xch x 0 inb_S2048x4096_S512x4096_0_0)) (h1 : p1 = q8 (xch x 512 inb_S2048x4096_S512x4096_512_0))
    (h2 : p2 = q8 (xch x 1024 inb_S2048x4096_S512x4096_1024_0)) (h3 : p3 = q8 (xch x 1536 inb_S2048x4096_S512x4096_1536_0)) :
    (View.whole cc0_scratch0).writes (Elt F) f0 (chunks p0 p1 p2 p3) = x8of x := by
  generalize hL : chunks p0 p1 p2 p3 = L
  have hc : ∀ y, ∃ p ∈ L, y ∈ p.1.set := hL ▸ chunks_cover p0 p1 p2 p3
  have hv : View.canon L = x8of x := hL ▸ chunks_canon x p0 p1 p2 p3 h0 h1 h2 h3
  exact (View.read_writes_eq_canon (View.whole cc0_scratch0) f0 L hc).trans hv

/-- and a load of all of it reads them. -/
theorem chunks_read
    (h0 : p0 = q8 (xch x 0 inb_S2048x4096_S512x4096_0_0)) (h1 : p1 = q8 (xch x 512 inb_S2048x4096_S512x4096_512_0))
    (h2 : p2 = q8 (xch x 1024 inb_S2048x4096_S512x4096_1024_0)) (h3 : p3 = q8 (xch x 1536 inb_S2048x4096_S512x4096_1536_0)) :
    (View.whole cc0_scratch0).readCov (chunks p0 p1 p2 p3)
      (Rect.unit (s := S2048x4096) ![0, 0] ![2048, 4096] inb_S2048x4096_S2048x4096_0_0).toLoadRect = x8of x := by
  refine (View.readCov_eq_canon_ld (View.whole cc0_scratch0) _ _ (chunks_cover p0 p1 p2 p3)).trans ?_
  refine (congrArg (fun X => View.ld X _) (chunks_canon x p0 p1 p2 p3 h0 h1 h2 h3)).trans ?_
  exact View.ld_unit_zero (S := S2048x4096) zz _ _

/-- The two slots. -/
abbrev slot0 : Rect S2x512x4096 := Rect.unit (s := S2x512x4096) ![0, 0, 0] ![1, 512, 4096] inb_S2x512x4096_S1x512x4096_0_0_0
/-- The second slot of the staging buffer. -/
abbrev slot1 : Rect S2x512x4096 := Rect.unit (s := S2x512x4096) ![1, 0, 0] ![1, 512, 4096] inb_S2x512x4096_S1x512x4096_1_0_0
/-- The two slots do not overlap. -/
theorem slots_disjoint : Disjoint slot0.set slot1.set :=
  LoadRect.disjoint_of_separated _ _ 0 (by decide)

end Cert.KernelIdeal.Run

end
-- ==== Proof.First.lean ====
/-
  The body at the first grid point: the activations are copied in and quantised, the accumulators zeroed, the first
  block accumulated.
-/
module

public import proofs.«01_k».proof.Proof.Stage

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

/-! The slots after the copies, in the order they were made. -/

/-- One copy into a slot of the staging buffer. -/
abbrev put (r : Rect S2x512x4096) (h : S512x4096.numel = r.shape.numel) (f : Vec F S2x512x4096 .f32) (w : Vec F S512x4096 .f32) : Vec F S2x512x4096 .f32 :=
  (((View.whole cc0_scratch1).slice r).reshape S512x4096 h).write (Elt F) f w Finset.univ
/-- The first staging slot holds one chunk of `x`. -/
theorem hn0 : S512x4096.numel = slot0.shape.numel := by decide
/-- The second staging slot holds one chunk of `x`. -/
theorem hn1 : S512x4096.numel = slot1.shape.numel := by decide

variable (x : Vec F S2048x4096 .f32) (f1 : Vec F S2x512x4096 .f32)

/-- The staging buffer after one, two, three and four copies. -/
abbrev st1 : Vec F S2x512x4096 .f32 := put slot0 hn0 f1 (xch x 0 inb_S2048x4096_S512x4096_0_0)
/-- The staging buffer after the second chunk has landed. -/
abbrev st2 : Vec F S2x512x4096 .f32 := put slot1 hn1 (st1 x f1) (xch x 512 inb_S2048x4096_S512x4096_512_0)
/-- The staging buffer after the third chunk has landed. -/
abbrev st3 : Vec F S2x512x4096 .f32 := put slot0 hn0 (st2 x f1) (xch x 1024 inb_S2048x4096_S512x4096_1024_0)
/-- The staging buffer after the fourth chunk has landed. -/
abbrev st4 : Vec F S2x512x4096 .f32 := put slot1 hn1 (st3 x f1) (xch x 1536 inb_S2048x4096_S512x4096_1536_0)

/-- What is stored of the first chunk is its scaled copy. -/
theorem q0 : k0_pay3 ((View.whole cc0_scratch1).readAt (Elt F) slot0.toLoadRect (st2 x f1)) = q8 (xch x 0 inb_S2048x4096_S512x4096_0_0) :=
  pay3_q8 _ _ ((congrArg (fun v => shapeCast S512x4096 v shapeCasts_S1x512x4096_S512x4096) (slot_other slot0 slot1 hn1 slots_disjoint _ _)).trans (slot_same slot0 hn0 _ _ _))
/-- What is stored of the second chunk is its scaled copy. -/
theorem q1 : k0_pay4 ((View.whole cc0_scratch1).readAt (Elt F) slot1.toLoadRect (st3 x f1)) = q8 (xch x 512 inb_S2048x4096_S512x4096_512_0) :=
  pay4_q8 _ _ ((congrArg (fun v => shapeCast S512x4096 v shapeCasts_S1x512x4096_S512x4096) (slot_other slot1 slot0 hn0 slots_disjoint.symm _ _)).trans (slot_same slot1 hn1 _ _ _))
/-- What is stored of the third chunk is its scaled copy. -/
theorem q2 : k0_pay8 (k0_pay5 ((View.whole cc0_scratch1).readAt (Elt F) slot0.toLoadRect (st4 x f1))) (FloatOps.ofBits .f32 0x41000000#32) = q8 (xch x 1024 inb_S2048x4096_S512x4096_1024_0) :=
  pay8_q8 _ _ ((congrArg (fun v => shapeCast S512x4096 v shapeCasts_S1x512x4096_S512x4096) (slot_other slot0 slot1 hn1 slots_disjoint _ _)).trans (slot_same slot0 hn0 _ _ _))
/-- What is stored of the fourth chunk is its scaled copy. -/
theorem q3 : k0_pay9 ((View.whole cc0_scratch1).readAt (Elt F) slot1.toLoadRect (st4 x f1)) = q8 (xch x 1536 inb_S2048x4096_S512x4096_1536_0) :=
  pay9_q8 _ _ (slot_same slot1 hn1 _ _ _)

set_option sl_exec.squeezeSlice true in
set_option sl_exec.dmaWindow true in
set_option sl_exec.dmaWindowSet true in
set_option sl_exec.dmaWindowLent true in
/-- The first grid point: the run ends with the activations quantised and the first block accumulated. -/
theorem run_first (c : Dev nD) (i : grid0.Coords) (h1 : cond1 i) (h2 : ¬ k0_cond2 i = 1#1)
    (a2 : Memref sig .tc .vmem S4096x512 .f32) (ha2 : a2.IsWhole) (a3 : Memref sig .tc .vmem S2048x1 .i32) (ha3 : a3.IsWhole)
    (a4 : Memref sig .tc .vmem S2048x1 .f32) (ha4 : a4.IsWhole) (w : Vec F S4096x512 .f32) (lab : Vec F S2048x1 .i32)
    (x : Vec F S2048x4096 .f32) (f0 : Vec F S2048x4096 .fp8e4m3) (f1 : Vec F S2x512x4096 .f32) (f2 f3 : Vec F S2048x128 .f32)
    (O : CellTallies nD τ sig Unit) (W : Waits sig Unit) (hmw : ∀ s : DmaSem sig, (s.val = 4 ∨ s.val = 5) → (levAts L lv : sProp 𝕄) ⊢ MayWait c (.dma s) () O) :
    iprop((a2.view.loc (c : Thread nD τ) ↦[a2.view.set]{fullShare} ha2.unread w)
        ∗ (a3.view.loc (c : Thread nD τ) ↦[a3.view.set]{fullShare} ha3.unread lab)
        ∗ ((Memref.whole main_arg0).view.loc (c : Thread nD τ) ↦{fullShare} x)
        ∗ ((Memref.whole cc0_scratch0).view.loc (c : Thread nD τ) ↦{fullShare} f0)
        ∗ ((Memref.whole cc0_scratch1).view.loc (c : Thread nD τ) ↦{fullShare} f1)
        ∗ ((Memref.whole cc0_scratch2).view.loc (c : Thread nD τ) ↦{fullShare} f2)
        ∗ ((Memref.whole cc0_scratch3).view.loc (c : Thread nD τ) ↦{fullShare} f3)
        ∗ semVal ((c : Thread nD τ), .dma ld0) 0
        ∗ semVal ((c : Thread nD τ), .dma ld1) 0
        ∗ owes (c : Thread nD τ) O W ∗ levAts L lv)
      ⊢ wp frame (wpE (defs₀ (F := F)) 𝒱₀ (c : Thread nD τ) none) Set.univ
          (cc0_body i (Memref.whole main_arg0) (Memref.isWhole_whole _) a2 ha2 a3 ha3 a4 ha4
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10)
          (fun _ => iprop((a2.view.loc (c : Thread nD τ) ↦[a2.view.set]{fullShare} ha2.unread w)
        ∗ (a3.view.loc (c : Thread nD τ) ↦[a3.view.set]{fullShare} ha3.unread lab)
        ∗ pt c main_arg0 x ∗ pt c cc0_scratch0 (x8of x) ∗ (∃ f, pt c cc0_scratch1 f)
        ∗ pt c cc0_scratch2 (k0_pay13 w (x8of x) k0_pay10)
        ∗ pt c cc0_scratch3 (k0_pay1 (BitVec.ofNat 32 (i 0).val) (myY c) (k0_pay12 w (x8of x)) 8192#32 lab k0_pay11)
        ∗ semVal ((c : Thread nD τ), .dma ld0) 0 ∗ semVal ((c : Thread nD τ), .dma ld1) 0
        ∗ (∃ W', owes (c : Thread nD τ) O W')) : PUnit → sProp 𝕄) := by
  iintro ⟨H2, H3, HX, Hx, Hst, Hs, Hl, Hd0, Hd1, HO, #Hlev⟩
  ihave #M4 := (hmw ⟨4, by decide⟩ (.inl rfl)) $$ Hlev
  ihave #M5 := (hmw ⟨5, by decide⟩ (.inr rfl)) $$ Hlev
  sl_unfold [cc0_body]
  sl_exec
  sl_step
  isplitl [H2]; · iexact H2
  isplitl [H3]; · iexact H3
  isplitl [HX]; · iexact HX
  isplitl [Hx]
  · iapply (re (c := c) (b := cc0_scratch0) ?_) $$ Hx
    sl_unfold_words
    refine chunks_writes x _ _ _ _ f0 ?_ ?_ ?_ ?_
    · exact q0 x f1
    · exact q1 x f1
    · exact q2 x f1
    · exact q3 x f1
  isplitl [Hst]; · iexists _; iexact Hst
  isplitl [Hs]
  · iapply (re (c := c) (b := cc0_scratch2) ?_) $$ Hs
    sl_unfold_words
    simp only [View.writes_cons]
    refine (wrw cc0_scratch2 zz _ _ _).trans (pay13_congr (rd ha2 zz _ _) (chunks_read x _ _ _ _ ?_ ?_ ?_ ?_) (View.readCov_unit_zero (S := S2048x128) _ zz _ _))
    · exact q0 x f1
    · exact q1 x f1
    · exact q2 x f1
    · exact q3 x f1
  isplitl [Hl]
  · iapply (re (c := c) (b := cc0_scratch3) ?_) $$ Hl
    sl_unfold_words
    simp only [View.writes_cons]
    refine (wrw cc0_scratch3 zz _ _ _).trans (pay1_congr (rd ha2 zz _ _) (chunks_read x _ _ _ _ ?_ ?_ ?_ ?_) (rd ha3 zz _ _) (View.readCov_unit_zero (S := S2048x128) _ zz _ _))
    · exact q0 x f1
    · exact q1 x f1
    · exact q2 x f1
    · exact q3 x f1
  isplitl [Hd0]; · iexact Hd0
  isplitl [Hd1]; · iexact Hd1
  iexists _; iexact HO

end Cert.KernelIdeal.Run

end
-- ==== Proof.Last.lean ====
/-
  The body at the last grid point: the last block accumulated, the row sums exchanged with the peer, the result formed.
-/
module

public import proofs.«01_k».proof.Proof.First

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

/-- Respelling the contents of a buffer, and the buffer through its view. -/
theorem rev {c : Dev nD} {b : Ref sig .tc} {f g : b.ty.Contents (Elt F)} (h : f = g) : (pt c b f : sProp 𝕄) ⊢ vpt c b g := Entails.of_eq (by rw [h, vpt_eq])
/-- Back. -/
theorem ver {c : Dev nD} {b : Ref sig .tc} (f : b.ty.Contents (Elt F)) : (vpt c b f : sProp 𝕄) ⊢ pt c b f := Entails.of_eq (vpt_eq c b f)
/-- A store over all of a staging buffer leaves it filled with what was stored. -/
theorem wr {sp : Space} {s : Shape} {e : EltTy} {a : Memref sig .tc sp s e} (ha : a.IsWhole) {off : Fin s.rank → Nat} (ho : off = fun _ => 0)
    (inb : ∀ b, off b + s.size b ≤ s.size b) (f : a.view.ty.Contents (Elt F)) (w : s.Idx → Elt F e) :
    a.view.writes (Elt F) f [⟨Rect.unit off s.size inb, w⟩] = ha.unread w :=
  ha.eq_unread ((View.read_writes_eq_canon a.view f _ (fun y => ⟨_, List.mem_singleton_self _, View.mem_set_unit_zero ho inb y⟩)).trans (View.canon_unit_zero ho inb w))
/-- The result, from equal arguments. -/
theorem pay2_congr {a a' b b' d d' e e' : Vec F S2048x1 .f32} (h1 : a = a') (h2 : b = b') (h3 : d = d') (h4 : e = e') :
    k0_pay2 a b d e = k0_pay2 a' b' d' e' := by rw [h1, h2, h3, h4]
/-! The device the body names is the peer. -/
theorem dev1_eq (c : Dev nD) (h) : (⟨k0_dev1 c, h⟩ : Dev nD) = pr c := Fin.ext (k0_dev1_eq c)
/-- The device that the first copy goes to is the peer. -/
theorem dev2_eq (c : Dev nD) (h) : (⟨k0_dev2 c, h⟩ : Dev nD) = pr c := Fin.ext (k0_dev2_eq c)
/-- The device that the second copy goes to is the peer. -/
theorem dev3_eq (c : Dev nD) (h) : (⟨k0_dev3 c, h⟩ : Dev nD) = pr c := Fin.ext (k0_dev3_eq c)

/-! The schedule's payloads, spelled through the buffers' views. -/
section
variable (m : (ℓ : Loc nD τ sig) → Buf (Elt F) ℓ) (c : Dev nD) (u : Unit)
/-- What the peer's signal hands over: the peer's two receive buffers, and that they are ready. -/
theorem payload_bar' : (Rd (F := F) m).payload (barC c) 0 u =
  iprop((∃ f, ((Memref.whole cc0_scratch6).view.loc (Dev.tc (pr c) : Thread nD τ) ↦[(Memref.whole cc0_scratch6).view.set]{fullShare} f)) ∗ (∃ f, ((Memref.whole cc0_scratch7).view.loc (Dev.tc (pr c) : Thread nD τ) ↦[(Memref.whole cc0_scratch7).view.set]{fullShare} f)) ∗ reached ER (rcvC0 (pr c)) 0 ∗ reached ER (rcvC1 (pr c)) 0) := payload_bar m c u
/-- What the device's own signal hands to the peer. -/
theorem payload_bar_peer : (Rd (F := F) m).payload (barC (pr c)) 0 u =
  iprop((∃ f, ((Memref.whole cc0_scratch6).view.loc (Dev.tc c : Thread nD τ) ↦[(Memref.whole cc0_scratch6).view.set]{fullShare} f)) ∗ (∃ f, ((Memref.whole cc0_scratch7).view.loc (Dev.tc c : Thread nD τ) ↦[(Memref.whole cc0_scratch7).view.set]{fullShare} f)) ∗ reached ER (rcvC0 c) 0 ∗ reached ER (rcvC1 c) 0) := by
  rw [payload_bar]; unfold barPay; rw [pr_pr]
/-- What the first copy's departure gives back. -/
theorem payload_snd0' : (Rd (F := F) m).payload (sndC0 c) 0 u = ((Memref.whole cc0_scratch4).view.loc (Dev.tc c : Thread nD τ) ↦[(Memref.whole cc0_scratch4).view.set]{fullShare} sumS m c) := payload_snd0 m c u
/-- What the second copy's departure gives back. -/
theorem payload_snd1' : (Rd (F := F) m).payload (sndC1 c) 0 u = ((Memref.whole cc0_scratch5).view.loc (Dev.tc c : Thread nD τ) ↦[(Memref.whole cc0_scratch5).view.set]{fullShare} sumL m c) := payload_snd1 m c u
/-- What the first copy's landing brings: the peer's sum of exponentials. -/
theorem payload_rcv0' : (Rd (F := F) m).payload (rcvC0 c) 0 u = ((Memref.whole cc0_scratch6).view.loc (Dev.tc c : Thread nD τ) ↦[(Memref.whole cc0_scratch6).view.set]{fullShare} sumS m (pr c)) := payload_rcv0 m c u
/-- What the second copy's landing brings: the peer's labels' logits. -/
theorem payload_rcv1' : (Rd (F := F) m).payload (rcvC1 c) 0 u = ((Memref.whole cc0_scratch7).view.loc (Dev.tc c : Thread nD τ) ↦[(Memref.whole cc0_scratch7).view.set]{fullShare} sumL m (pr c)) := payload_rcv1 m c u
end
attribute [local sl_rounds] duties_bar duties_snd0 duties_snd1 duties_rcv0 duties_rcv1 amount_bar amount_snd0 amount_snd1 amount_rcv0 amount_rcv1
  expect_bar expect_snd0 expect_snd1 expect_rcv0 expect_rcv1 payload_bar' payload_snd0' payload_snd1' payload_rcv0' payload_rcv1' pr_pr
attribute [local sl_rounds high] payload_bar_peer

/-- The last grid point: the exchange of the two devices, and the result. -/
theorem run_last (m : (ℓ : Loc nD τ sig) → Buf (Elt F) ℓ) (K : GSem nD τ sig → ℕ) (c : Dev nD) (i : grid0.Coords) (h1 : ¬ cond1 i) (h2 : k0_cond2 i = 1#1)
    (a2 : Memref sig .tc .vmem S4096x512 .f32) (ha2 : a2.IsWhole) (a3 : Memref sig .tc .vmem S2048x1 .i32) (ha3 : a3.IsWhole)
    (a4 : Memref sig .tc .vmem S2048x1 .f32) (ha4 : a4.IsWhole) (w : Vec F S4096x512 .f32) (lab : Vec F S2048x1 .i32)
    (x8 : Vec F S2048x4096 .fp8e4m3) (sa la : Vec F S2048x128 .f32) (f4 f5 f6 f7 o : Vec F S2048x1 .f32) (W : Waits sig Unit)
    (hS : k0_pay6 (k0_pay13 w x8 sa) = sumS m c)
    (hL : k0_pay7 (k0_pay1 (BitVec.ofNat 32 (i 0).val) (myY c) (k0_pay12 w x8) 8192#32 lab la) = sumL m c) :
    iprop((a2.view.loc (c : Thread nD τ) ↦[a2.view.set]{fullShare} ha2.unread w)
        ∗ (a3.view.loc (c : Thread nD τ) ↦[a3.view.set]{fullShare} ha3.unread lab)
        ∗ (a4.view.loc (c : Thread nD τ) ↦[a4.view.set]{fullShare} ha4.unread o)
        ∗ ((Memref.whole cc0_scratch0).view.loc (c : Thread nD τ) ↦{fullShare} x8)
        ∗ ((Memref.whole cc0_scratch2).view.loc (c : Thread nD τ) ↦{fullShare} sa)
        ∗ ((Memref.whole cc0_scratch3).view.loc (c : Thread nD τ) ↦{fullShare} la)
        ∗ ((Memref.whole cc0_scratch4).view.loc (c : Thread nD τ) ↦{fullShare} f4)
        ∗ ((Memref.whole cc0_scratch5).view.loc (c : Thread nD τ) ↦{fullShare} f5)
        ∗ ((Memref.whole cc0_scratch6).view.loc (c : Thread nD τ) ↦{fullShare} f6)
        ∗ ((Memref.whole cc0_scratch7).view.loc (c : Thread nD τ) ↦{fullShare} f7)
        ∗ opened m K c ∗ creds c
        ∗ owes (c : Thread nD τ) (O₀ c) W ∗ levAts L lv)
      ⊢ wp frame (wpE (defs₀ (F := F)) 𝒱₀ (c : Thread nD τ) none) Set.univ
          (cc0_body i (Memref.whole main_arg0) (Memref.isWhole_whole _) a2 ha2 a3 ha3 a4 ha4
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10)
          (fun _ => iprop((a2.view.loc (c : Thread nD τ) ↦[a2.view.set]{fullShare} ha2.unread w)
        ∗ (a3.view.loc (c : Thread nD τ) ↦[a3.view.set]{fullShare} ha3.unread lab)
        ∗ (a4.view.loc (c : Thread nD τ) ↦[a4.view.set]{fullShare} ha4.unread (outV m c))
        ∗ pt c cc0_scratch0 x8 ∗ (∃ f, pt c cc0_scratch2 f) ∗ (∃ f, pt c cc0_scratch3 f)
        ∗ (∃ f, pt c cc0_scratch4 f) ∗ (∃ f, pt c cc0_scratch5 f) ∗ (∃ f, pt c cc0_scratch6 f) ∗ (∃ f, pt c cc0_scratch7 f)
        ∗ semVal (barC c) 0 ∗ semVal (sndC0 c) 0 ∗ semVal (sndC1 c) 0 ∗ semVal (rcvC0 c) 0 ∗ semVal (rcvC1 c) 0
        ∗ (∃ W', owes (c : Thread nD τ) 0 W')) : PUnit → sProp 𝕄) := by
  iintro ⟨H2, H3, H4, Hx, Hs, Hl, Hss, Hls, Hrs, Hrl, Hgh, Hcr, HO, #Hlev⟩
  sl_unfold [cc0_body]
  sl_exec
  ihave Hss' : ((Memref.whole cc0_scratch4).view.loc (Dev.tc c : Thread nD τ) ↦[(Memref.whole cc0_scratch4).view.set]{fullShare} sumS m c) $$ [Hss]
  · iapply (rev (c := c) (b := cc0_scratch4) ?_) $$ Hss
    sl_unfold_words
    simp only [View.writes_cons]
    refine (wrw cc0_scratch4 zz _ _ _).trans ((congrArg k0_pay6 ?_).trans hS)
    exact (View.readCov_unit_zero (S := S2048x128) _ zz _ _).trans (pay13_congr (rd ha2 zz _ _) (rdw cc0_scratch0 zz _ _) (rdw cc0_scratch2 zz _ _))
  ihave Hls' : ((Memref.whole cc0_scratch5).view.loc (Dev.tc c : Thread nD τ) ↦[(Memref.whole cc0_scratch5).view.set]{fullShare} sumL m c) $$ [Hls]
  · iapply (rev (c := c) (b := cc0_scratch5) ?_) $$ Hls
    sl_unfold_words
    simp only [View.writes_cons]
    refine (wrw cc0_scratch5 zz _ _ _).trans ((congrArg k0_pay7 ?_).trans hL)
    exact (View.readCov_unit_zero (S := S2048x128) _ zz _ _).trans
      (pay1_congr (rd ha2 zz _ _) (rdw cc0_scratch0 zz _ _) (rd ha3 zz _ _) (rdw cc0_scratch3 zz _ _))
  ihave Hrs' : iprop(∃ f, ((Memref.whole cc0_scratch6).view.loc (Dev.tc c : Thread nD τ) ↦[(Memref.whole cc0_scratch6).view.set]{fullShare} f)) $$ [Hrs]
  · iexists f6; iapply (rev (c := c) (b := cc0_scratch6) rfl) $$ Hrs
  ihave Hrl' : iprop(∃ f, ((Memref.whole cc0_scratch7).view.loc (Dev.tc c : Thread nD τ) ↦[(Memref.whole cc0_scratch7).view.set]{fullShare} f)) $$ [Hrl]
  · iexists f7; iapply (rev (c := c) (b := cc0_scratch7) rfl) $$ Hrl
  unfold opened invs toks creds O₀ O₁
  icases Hgh with ⟨⟨#IB, #IS0, #IS1, #IR0, #IR1, #IBp, #IR0p, #IR1p⟩, AB, ⟨AS0, AS1, AR0, AR1⟩, ⟨#RBp, #RS0, #RS1, #RR0, #RR1⟩, TBp, TR0, TR1, TS0, TS1⟩
  icases Hcr with ⟨CB, CR0, CR1⟩
  ihave #MB := (mayWait_bar c) $$ Hlev
  unfold O₁
  have hd1 := dev1_eq c (k0_dev1_lt i c h2)
  have hd2 := dev2_eq c (k0_dev2_lt i c h2)
  have hd3 := dev3_eq c (k0_dev3_lt i c h2)
  sl_exec
  rw [wp_ret]
  imod (close m (K (barC c)) (barC c)) $$ [AB] with ZB
  · isplitr; · iexact IB
    iexact AB
  imod (close m (K (sndC0 c)) (sndC0 c)) $$ [AS0] with ZS0
  · isplitr; · iexact IS0
    iexact AS0
  imod (close m (K (sndC1 c)) (sndC1 c)) $$ [AS1] with ZS1
  · isplitr; · iexact IS1
    iexact AS1
  imod (close m (K (rcvC0 c)) (rcvC0 c)) $$ [AR0] with ZR0
  · isplitr; · iexact IR0
    iexact AR0
  imod (close m (K (rcvC1 c)) (rcvC1 c)) $$ [AR1] with ZR1
  · isplitr; · iexact IR1
    iexact AR1
  imodintro
  isplitl [H2]; · iexact H2
  isplitl [H3]; · iexact H3
  isplitl [H4]
  · iapply (Entails.of_eq (congrArg (fun v => (a4.view.loc (c : Thread nD τ) ↦[a4.view.set]{fullShare} v : sProp 𝕄)) ?_)) $$ H4
    sl_unfold_words
    refine (wr ha4 zz _ _ _).trans (congrArg ha4.unread ?_)
    unfold outV
    exact pay2_congr (rdw cc0_scratch4 zz _ _) (rdw cc0_scratch6 zz _ _) (rdw cc0_scratch5 zz _ _) (rdw cc0_scratch7 zz _ _)
  isplitl [Hx]; · iexact Hx
  isplitl [Hs]; · iexists _; iexact Hs
  isplitl [Hl]; · iexists _; iexact Hl
  isplitl [AS0_pay1]; · iexists _; iapply (ver (c := c) (b := cc0_scratch4) _) $$ AS0_pay1
  isplitl [AS1_pay1]; · iexists _; iapply (ver (c := c) (b := cc0_scratch5) _) $$ AS1_pay1
  isplitl [AR0_pay1]; · iexists _; iapply (ver (c := c) (b := cc0_scratch6) _) $$ AR0_pay1
  isplitl [AR1_pay1]; · iexists _; iapply (ver (c := c) (b := cc0_scratch7) _) $$ AR1_pay1
  isplitl [ZB]; · iexact ZB
  isplitl [ZS0]; · iexact ZS0
  isplitl [ZS1]; · iexact ZS1
  isplitl [ZR0]; · iexact ZR0
  isplitl [ZR1]; · iexact ZR1
  iexists _; iexact HO

end Cert.KernelIdeal.Run

end
-- ==== Proof.Body.lean ====
/-
  The body keeps the pipeline's data at every grid point.
-/
module

public import proofs.«01_k».proof.Proof.Data
public import proofs.«01_k».proof.Proof.First
public import proofs.«01_k».proof.Proof.Last
public import Idealize.ShloMosaic.Lib.LaneScatter.Own

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ
variable (m : (ℓ : Loc nD τ sig) → Buf (Elt F) ℓ)

/-! ## Which grid point is which -/

/-- A grid point's coordinate is its number. -/
theorem coords_val (t : Fin cfg0.N) : (grid0.coords t 0).val = t.val := by revert t; exact (by decide : ∀ t : Fin grid0.N, (grid0.coords t 0).val = t.val)
/-- At the first point the kernel copies `x` in. -/
theorem first_pt (t : Fin cfg0.N) (h : t.val = 0) : cond1 (grid0.coords t) := by
  revert t; exact (by decide : ∀ t : Fin grid0.N, t.val = 0 → cond1 (grid0.coords t))
/-- At no later point does it. -/
theorem later_pt (t : Fin cfg0.N) (h : t.val ≠ 0) : ¬ cond1 (grid0.coords t) := by
  revert t; exact (by decide : ∀ t : Fin grid0.N, t.val ≠ 0 → ¬ cond1 (grid0.coords t))
/-- At the last point the kernel exchanges its sums. -/
theorem last_pt (t : Fin cfg0.N) (h : t.val = 15) : k0_cond2 (grid0.coords t) = 1#1 := by
  revert t; exact (by decide : ∀ t : Fin grid0.N, t.val = 15 → k0_cond2 (grid0.coords t) = 1#1)
/-- At no earlier point does it. -/
theorem early_pt (t : Fin cfg0.N) (h : t.val ≠ 15) : ¬ k0_cond2 (grid0.coords t) = 1#1 := by
  revert t; exact (by decide : ∀ t : Fin grid0.N, t.val ≠ 15 → ¬ k0_cond2 (grid0.coords t) = 1#1)
/-- There are sixteen points. -/
theorem pt_lt (t : Fin cfg0.N) : t.val < 16 := lt_of_lt_of_eq t.isLt N_0

/-- The result's buffer is left alone before the last point. -/
theorem idle_early (t : Fin cfg0.N) (h : t.val ≠ 15) : cfg0.idle 2 (cfg0.grid.coords t) = true := by
  show (!(k0_cond2 (grid0.coords t) == 1#1)) = true
  rw [Bool.not_eq_true', beq_eq_false_iff_ne]; exact early_pt t h
/-- At the last point it is written. -/
theorem idle_last (t : Fin cfg0.N) (h : t.val = 15) : cfg0.idle 2 (cfg0.grid.coords t) = false := by
  show (!(k0_cond2 (grid0.coords t) == 1#1)) = false
  rw [last_pt t h]; rfl
/-- The result is not written back before the last point. -/
theorem flush_early (t : Fin cfg0.N) (h : t.val ≠ 15) : (cfg0.win 2).flush t = false := by
  rw [Bool.eq_false_iff]; intro hf
  have := (flush0_2 t).mp hf; have := pt_lt t; omega

/-- What the loop takes back of the result's window where the body does not write it. -/
theorem back_early (c : Dev nD) (t : Fin cfg0.N) (h : t.val ≠ 15) (d) :
    (owns (c : Thread nD τ) ((cfg0.win 2).stage (cfg0.slots t 2)) fullShare ((dat m c).before 2 t d) : sProp 𝕄)
      ⊢ (match cfg0.idle 2 (cfg0.grid.coords t) with
          | true => match (cfg0.win 2).flush t with
            | false => iprop(∃ d, owns (c : Thread nD τ) ((cfg0.win 2).stage (cfg0.slots t 2)) fullShare ((dat m c).before 2 t d))
            | true => owns (c : Thread nD τ) ((cfg0.win 2).stage (cfg0.slots t 2)) fullShare ((dat m c).after 2 t)
          | false => owns (c : Thread nD τ) ((cfg0.win 2).stage (cfg0.slots t 2)) fullShare ((dat m c).after 2 t) : sProp 𝕄) := by
  rw [idle_early t h, flush_early t h]
  iintro H; iexists d; iexact H
/-- And where it does. -/
theorem back_last (c : Dev nD) (t : Fin cfg0.N) (h : t.val = 15) :
    (owns (c : Thread nD τ) ((cfg0.win 2).stage (cfg0.slots t 2)) fullShare (outV m c) : sProp 𝕄)
      ⊢ (match cfg0.idle 2 (cfg0.grid.coords t) with
          | true => match (cfg0.win 2).flush t with
            | false => iprop(∃ d, owns (c : Thread nD τ) ((cfg0.win 2).stage (cfg0.slots t 2)) fullShare ((dat m c).before 2 t d))
            | true => owns (c : Thread nD τ) ((cfg0.win 2).stage (cfg0.slots t 2)) fullShare ((dat m c).after 2 t)
          | false => owns (c : Thread nD τ) ((cfg0.win 2).stage (cfg0.slots t 2)) fullShare ((dat m c).after 2 t) : sProp 𝕄) := by
  rw [idle_last t h]
  exact BI.Entails.refl _

/-! ## The three kinds of points -/

/-- The windows' buffers as a point finds them. -/
abbrev w2 (t : Fin cfg0.N) := win0_0.stage (cfg0.slots t 0)
/-- The buffer of the labels at a point. -/
abbrev w3 (t : Fin cfg0.N) := win0_1.stage (cfg0.slots t 1)
/-- The buffer of the result at a point. -/
abbrev w4 (t : Fin cfg0.N) := win0_2.stage (cfg0.slots t 2)
/-- The buffer of `W`'s block is a whole buffer. -/
theorem hw2 (t : Fin cfg0.N) : (w2 t).IsWhole := hstage0_0 ((cfg0.slots t 0).cast nbuf0_0)
/-- The buffer of the labels is a whole buffer. -/
theorem hw3 (t : Fin cfg0.N) : (w3 t).IsWhole := hstage0_1 ((cfg0.slots t 1).cast nbuf0_1)
/-- The buffer of the result is a whole buffer. -/
theorem hw4 (t : Fin cfg0.N) : (w4 t).IsWhole := hstage0_2 ((cfg0.slots t 2).cast nbuf0_2)

/-- A window owned at `x`, through its buffer. -/
theorem own_raw {c : Dev nD} {sp : Space} {sh : Shape} {e : EltTy} {M : Memref sig .tc sp sh e} (h : M.IsWhole) (x : sh.Idx → Elt F e) :
    (owns (c : Thread nD τ) M fullShare x : sProp 𝕄) ⊢ (M.view.loc (c : Thread nD τ) ↦[M.view.set]{fullShare} h.unread x) := by
  unfold owns
  iintro ⟨%f, %hf, H⟩
  obtain rfl := h.eq_unread hf
  iexact H
/-- And back. -/
theorem raw_own {c : Dev nD} {sp : Space} {sh : Shape} {e : EltTy} {M : Memref sig .tc sp sh e} (h : M.IsWhole) (x : sh.Idx → Elt F e) :
    (M.view.loc (c : Thread nD τ) ↦[M.view.set]{fullShare} h.unread x : sProp 𝕄) ⊢ (owns (c : Thread nD τ) M fullShare x : sProp 𝕄) := by
  unfold owns
  iintro H
  iexists _; isplitr
  · ipureintro; exact h.read_unread x
  iexact H

/-- The body at a middle point takes what is known before the point to what is known after it. -/
theorem body_mid (c : Dev nD) (t : Fin cfg0.N) (h0 : t.val ≠ 0) (h15 : t.val ≠ 15) :
    iprop(phiMid m c t.val ∗ (∃ W, owes (c : Thread nD τ) (O₀ c) W)
        ∗ owns (c : Thread nD τ) (w2 t) fullShare (iblk m c 0 t) ∗ owns (c : Thread nD τ) (w3 t) fullShare (iblk m c 1 t))
      ⊢ wp frame (wpE (defs₀ (F := F)) 𝒱₀ (c : Thread nD τ) none) Set.univ (bodyAt0 (F := F) t)
          (fun _ => iprop(phiMid m c (t.val + 1) ∗ (∃ W, owes (c : Thread nD τ) (O₀ c) W)
        ∗ owns (c : Thread nD τ) (w2 t) fullShare (iblk m c 0 t) ∗ owns (c : Thread nD τ) (w3 t) fullShare (iblk m c 1 t)) : PUnit → sProp 𝕄) := by
  unfold phiMid
  iintro ⟨⟨Hb, Ht, Hx, Hs, Hl⟩, HO, H2, H3⟩
  ihave H2 := (own_raw (c := c) (hw2 t) (iblk m c 0 t)) $$ H2
  ihave H3 := (own_raw (c := c) (hw3 t) (iblk m c 1 t)) $$ H3
  ihave Hw := (run_mid (F := F) c (grid0.coords t) (later_pt t h0) (early_pt t h15) (w2 t) (hw2 t) (w3 t) (hw3 t) (w4 t) (hw4 t)
    (iblk m c 0 t) (iblk m c 1 t) (X8 m c) (accS m c t.val) (accL m c t.val)) $$ [H2 H3 Hx Hs Hl]
  · isplitl [H2]; · iexact H2
    isplitl [H3]; · iexact H3
    isplitl [Hx]; · iexact Hx
    isplitl [Hs] <;> iassumption
  iapply (wp_wand _ _ _) $$ Hw
  iintro %_ ⟨H2, H3, Hx, Hs, Hl⟩
  isplitl [Hb Ht Hx Hs Hl]
  · isplitl [Hb]; · iexact Hb
    isplitl [Ht]; · iexact Ht
    isplitl [Hx]; · iexact Hx
    isplitl [Hs]
    · iapply (re (c := c) (b := cc0_scratch2) (accS_succ m c t).symm) $$ Hs
    · iapply (re (c := c) (b := cc0_scratch3) ?_) $$ Hl
      rw [coords_val]; exact (accL_succ m c t).symm
  isplitl [HO]; · iexact HO
  isplitl [H2]
  · iapply (raw_own (c := c) (hw2 t) (iblk m c 0 t)) $$ H2
  · iapply (raw_own (c := c) (hw3 t) (iblk m c 1 t)) $$ H3

/-- The body at the first point does so. -/
theorem body_first (c : Dev nD) (t : Fin cfg0.N) (h0 : t.val = 0) :
    iprop(phi0 m c ∗ (∃ W, owes (c : Thread nD τ) (O₀ c) W)
        ∗ owns (c : Thread nD τ) (w2 t) fullShare (iblk m c 0 t) ∗ owns (c : Thread nD τ) (w3 t) fullShare (iblk m c 1 t))
      ⊢ wp frame (wpE (defs₀ (F := F)) 𝒱₀ (c : Thread nD τ) none) Set.univ (bodyAt0 (F := F) t)
          (fun _ => iprop(phiMid m c (t.val + 1) ∗ (∃ W, owes (c : Thread nD τ) (O₀ c) W)
        ∗ owns (c : Thread nD τ) (w2 t) fullShare (iblk m c 0 t) ∗ owns (c : Thread nD τ) (w3 t) fullShare (iblk m c 1 t)) : PUnit → sProp 𝕄) := by
  unfold phi0 phiMid base talk any
  iintro ⟨⟨⟨HX, Hp, Hd0, Hd1, ⟨%f1, Hst⟩, Hr⟩, ⟨Ho, Hc, #Hlev⟩, ⟨%f0, Hx⟩, ⟨%f2, Hs⟩, ⟨%f3, Hl⟩⟩, ⟨%W, HO⟩, H2, H3⟩
  ihave H2 := (own_raw (c := c) (hw2 t) (iblk m c 0 t)) $$ H2
  ihave H3 := (own_raw (c := c) (hw3 t) (iblk m c 1 t)) $$ H3
  ihave Hw := (run_first (F := F) c (grid0.coords t) (first_pt t h0) (early_pt t (by omega)) (w2 t) (hw2 t) (w3 t) (hw3 t) (w4 t) (hw4 t)
    (iblk m c 0 t) (iblk m c 1 t) (V m c main_arg0) f0 f1 f2 f3 (O₀ c) W (fun s hs => mayWait_low c s (by omega))) $$ [H2 H3 HX Hx Hst Hs Hl Hd0 Hd1 HO]
  · isplitl [H2]; · iexact H2
    isplitl [H3]; · iexact H3
    isplitl [HX]; · iexact HX
    isplitl [Hx]; · iexact Hx
    isplitl [Hst]; · iexact Hst
    isplitl [Hs]; · iexact Hs
    isplitl [Hl]; · iexact Hl
    isplitl [Hd0]; · iexact Hd0
    isplitl [Hd1]; · iexact Hd1
    isplitl [HO]; · iexact HO
    iexact Hlev
  iapply (wp_wand _ _ _) $$ Hw
  iintro %_ ⟨H2, H3, HX, Hx, Hst, Hs, Hl, Hd0, Hd1, HO⟩
  isplitl [Hp Hr Ho Hc HX Hx Hst Hs Hl Hd0 Hd1]
  · isplitl [HX Hp Hd0 Hd1 Hst Hr]
    · isplitl [HX]; · iexact HX
      isplitl [Hp]; · iexact Hp
      isplitl [Hd0]; · iexact Hd0
      isplitl [Hd1]; · iexact Hd1
      isplitl [Hst]; · iexact Hst
      iexact Hr
    isplitl [Ho Hc]
    · isplitl [Ho]; · iexact Ho
      isplitl [Hc]; · iexact Hc
      iexact Hlev
    isplitl [Hx]; · iexact Hx
    isplitl [Hs]
    · iapply (re (c := c) (b := cc0_scratch2) ?_) $$ Hs
      refine Eq.trans ?_ (accS_succ m c t).symm
      rw [h0]; rfl
    · iapply (re (c := c) (b := cc0_scratch3) ?_) $$ Hl
      refine Eq.trans ?_ (accL_succ m c t).symm
      rw [coords_val, h0]; rfl
  isplitl [HO]; · iexact HO
  isplitl [H2]
  · iapply (raw_own (c := c) (hw2 t) (iblk m c 0 t)) $$ H2
  · iapply (raw_own (c := c) (hw3 t) (iblk m c 1 t)) $$ H3

/-- The body at the last point does so. -/
theorem body_last (c : Dev nD) (t : Fin cfg0.N) (h15 : t.val = 15) (o : Vec F S2048x1 .f32) :
    iprop(phiMid m c t.val ∗ (∃ W, owes (c : Thread nD τ) (O₀ c) W)
        ∗ owns (c : Thread nD τ) (w2 t) fullShare (iblk m c 0 t) ∗ owns (c : Thread nD τ) (w3 t) fullShare (iblk m c 1 t)
        ∗ owns (c : Thread nD τ) (w4 t) fullShare o)
      ⊢ wp frame (wpE (defs₀ (F := F)) 𝒱₀ (c : Thread nD τ) none) Set.univ (bodyAt0 (F := F) t)
          (fun _ => iprop(phiEnd m c ∗ (∃ W, owes (c : Thread nD τ) 0 W)
        ∗ owns (c : Thread nD τ) (w2 t) fullShare (iblk m c 0 t) ∗ owns (c : Thread nD τ) (w3 t) fullShare (iblk m c 1 t)
        ∗ owns (c : Thread nD τ) (w4 t) fullShare (outV m c)) : PUnit → sProp 𝕄) := by
  unfold phiMid phiEnd base talk quiet any
  iintro ⟨⟨⟨HX, Hp, Hd0, Hd1, Hst, ⟨%f4, Hss⟩, ⟨%f5, Hls⟩, ⟨%f6, Hrs⟩, ⟨%f7, Hrl⟩⟩, ⟨⟨%K, Ho⟩, Hc, #Hlev⟩, Hx, Hs, Hl⟩, ⟨%W, HO⟩, H2, H3, H4⟩
  ihave H2 := (own_raw (c := c) (hw2 t) (iblk m c 0 t)) $$ H2
  ihave H3 := (own_raw (c := c) (hw3 t) (iblk m c 1 t)) $$ H3
  ihave H4 := (own_raw (c := c) (hw4 t) o) $$ H4
  ihave Hw := (run_last (F := F) m K c (grid0.coords t) (later_pt t (by omega)) (last_pt t h15) (w2 t) (hw2 t) (w3 t) (hw3 t) (w4 t) (hw4 t)
    (iblk m c 0 t) (iblk m c 1 t) (X8 m c) (accS m c t.val) (accL m c t.val) f4 f5 f6 f7 o W
    (by unfold sumS; rw [← accS_succ m c t, h15]) (by unfold sumL; rw [coords_val, ← accL_succ m c t, h15])) $$ [H2 H3 H4 Hx Hs Hl Hss Hls Hrs Hrl Ho Hc HO]
  · isplitl [H2]; · iexact H2
    isplitl [H3]; · iexact H3
    isplitl [H4]; · iexact H4
    isplitl [Hx]; · iexact Hx
    isplitl [Hs]; · iexact Hs
    isplitl [Hl]; · iexact Hl
    isplitl [Hss]; · iexact Hss
    isplitl [Hls]; · iexact Hls
    isplitl [Hrs]; · iexact Hrs
    isplitl [Hrl]; · iexact Hrl
    isplitl [Ho]; · iexact Ho
    isplitl [Hc]; · iexact Hc
    isplitl [HO]; · iexact HO
    iexact Hlev
  iapply (wp_wand _ _ _) $$ Hw
  iintro %_ ⟨H2, H3, H4, Hx, Hs, Hl, Hss, Hls, Hrs, Hrl, Hb0, Hs0, Hs1, Hv0, Hv1, HO⟩
  isplitr [HO H2 H3 H4]
  · isplitl [HX Hp Hd0 Hd1 Hst Hss Hls Hrs Hrl]
    · isplitl [HX]; · iexact HX
      isplitl [Hp]; · iexact Hp
      isplitl [Hd0]; · iexact Hd0
      isplitl [Hd1]; · iexact Hd1
      isplitl [Hst]; · iexact Hst
      isplitl [Hss]; · iexact Hss
      isplitl [Hls]; · iexact Hls
      isplitl [Hrs]; · iexact Hrs
      iexact Hrl
    isplitl [Hb0 Hs0 Hs1 Hv0 Hv1]
    · isplitl [Hb0]; · iexact Hb0
      isplitl [Hs0]; · iexact Hs0
      isplitl [Hs1]; · iexact Hs1
      isplitl [Hv0] <;> iassumption
    isplitl [Hx]; · iexists _; iexact Hx
    isplitl [Hs] <;> iassumption
  isplitl [HO]; · iexact HO
  isplitl [H2]
  · iapply (raw_own (c := c) (hw2 t) (iblk m c 0 t)) $$ H2
  isplitl [H3]
  · iapply (raw_own (c := c) (hw3 t) (iblk m c 1 t)) $$ H3
  · iapply (raw_own (c := c) (hw4 t) (outV m c)) $$ H4

/-! ## The obligation -/

/-- At every point the body takes the data of that point to the data of the next. -/
theorem body_ok (c : Dev nD) : BodyObligation (dat m c) (defs₀ (F := F)) 𝒱₀ () Set.univ := fun t => by
  rw [bigSep_W0, bigSep_W0]
  rw [Phi_castSucc, Phi_succ]
  have hlt := pt_lt t
  iintro ⟨HΦ, HO, ⟨%d0, H2⟩, ⟨%d1, H3⟩, ⟨%d2, H4⟩⟩
  ihave HO := (owes_from m (c := c) t.castSucc ((owed_castSucc m c t).trans (owing_lt c hlt))) $$ HO
  ihave H2 := (Entails.of_eq (congrArg (fun X => (owns (c : Thread nD τ) (w2 t) fullShare X : sProp 𝕄)) (before_0 m c t d0))) $$ H2
  ihave H3 := (Entails.of_eq (congrArg (fun X => (owns (c : Thread nD τ) (w3 t) fullShare X : sProp 𝕄)) (before_1 m c t d1))) $$ H3
  by_cases h15 : t.val = 15
  · ihave HΦ := (Entails.of_eq (phi_mid m c (n := t.val) (by omega) hlt)) $$ HΦ
    ihave Hw := (body_last m c t h15 ((dat m c).before 2 t d2)) $$ [HΦ HO H2 H3 H4]
    · isplitl [HΦ]; · iexact HΦ
      isplitl [HO]; · iexact HO
      isplitl [H2]; · iexact H2
      isplitl [H3] <;> iassumption
    iapply (wp_wand _ _ _) $$ Hw
    iintro %_ ⟨HΦ, ⟨%W, HO⟩, H2, H3, H4⟩
    isplitl [HΦ]
    · iapply (Entails.of_eq (phi_end m c (n := t.val + 1) (by omega)).symm) $$ HΦ
    isplitl [HO]
    · iapply (owes_into m (c := c) t.succ ((owed_succ m c t).trans (owing_end c (by omega))) W) $$ HO
    isplitl [H2]; · iexact H2
    isplitl [H3]; · iexact H3
    iapply (back_last m c t h15) $$ H4
  · by_cases h0 : t.val = 0
    · ihave HΦ := (Entails.of_eq ((congrArg (phi m c) h0).trans (phi_zero m c))) $$ HΦ
      ihave Hw := (body_first m c t h0) $$ [HΦ HO H2 H3]
      · isplitl [HΦ]; · iexact HΦ
        isplitl [HO]; · iexact HO
        isplitl [H2] <;> iassumption
      iapply (wp_wand _ _ _) $$ Hw
      iintro %_ ⟨HΦ, ⟨%W, HO⟩, H2, H3⟩
      isplitl [HΦ]
      · iapply (Entails.of_eq (phi_mid m c (n := t.val + 1) (by omega) (by omega)).symm) $$ HΦ
      isplitl [HO]
      · iapply (owes_into m (c := c) t.succ ((owed_succ m c t).trans (owing_lt c (by omega))) W) $$ HO
      isplitl [H2]; · iexact H2
      isplitl [H3]; · iexact H3
      iapply (back_early m c t h15 d2) $$ H4
    · ihave HΦ := (Entails.of_eq (phi_mid m c (n := t.val) h0 hlt)) $$ HΦ
      ihave Hw := (body_mid m c t h0 h15) $$ [HΦ HO H2 H3]
      · isplitl [HΦ]; · iexact HΦ
        isplitl [HO]; · iexact HO
        isplitl [H2] <;> iassumption
      iapply (wp_wand _ _ _) $$ Hw
      iintro %_ ⟨HΦ, ⟨%W, HO⟩, H2, H3⟩
      isplitl [HΦ]
      · iapply (Entails.of_eq (phi_mid m c (n := t.val + 1) (by omega) (by omega)).symm) $$ HΦ
      isplitl [HO]
      · iapply (owes_into m (c := c) t.succ ((owed_succ m c t).trans (owing_lt c (by omega))) W) $$ HO
      isplitl [H2]; · iexact H2
      isplitl [H3]; · iexact H3
      iapply (back_early m c t h15 d2) $$ H4

end Cert.KernelIdeal.Run

end
-- ==== Proof.Region.lean ====
/-
  The program as three segments: the labels reshaped, the kernel, the result reshaped; and what each leaves.
-/
module

public import proofs.«01_k».proof.Proof.Body
public import Idealize.ShloMosaic.Lib.Pipeline.ValueKit.Geometry

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ
variable (m : (ℓ : Loc nD τ sig) → Buf (Elt F) ℓ)

/-! ## What the buffers hold between the segments -/

/-- As launched. -/
abbrev VI (c : Dev nD) : Valuation τ sig (Elt F) := fun b => m (c, b)
/-- After the kernel: its windows' arrays as it leaves them. -/
def V2 (c : Dev nD) : Valuation τ sig (Elt F) := Pipeline.withArrays spec0 c (V0 m c) (fun w => (dat m c).arrAt w cfg0.N)
/-- After the result is reshaped. -/
def V3 (c : Dev nD) : Valuation τ sig (Elt F) := StableHlo.after hostOps1 (V2 m c)

/-- The windows' arrays are different. -/
theorem arr_inj : Function.Injective (Pipeline.arrRef spec0) := by decide

/-- After the kernel a window's array holds what the pipeline left. -/
theorem V2_arr (c : Dev nD) (w : Fin cfg0.W) : V2 m c (Proc.devRef .tc (Pipeline.arrRef spec0 w)) = (dat m c).arrAt w cfg0.N :=
  Pipeline.withArrays_arr spec0 arr_inj c (V0 m c) _ w
/-- Every other array is as before. -/
theorem V2_rest (c : Dev nD) (b : Ref sig .tc) (hb : ∀ w, Pipeline.arrRef spec0 w ≠ b) : V2 m c (Proc.devRef .tc b) = V m c b :=
  Pipeline.withArrays_of_ne spec0 c (V0 m c) _ b hb

/-- The result's window is the whole of its array, and holds the result at the point it is written back. -/
theorem flushed_2 (c : Dev nD) : (dat m c).arrAt 2 cfg0.N = outV m c := by
  refine (dat m c).arrAt_eq_of_covers 2 (outV m c) (by decide +kernel) (fun t _ y => ?_)
  have hi : ∀ a, win0_2.index t a = 0 := (by decide : ∀ t : Fin grid0.N, ∀ a, win0_2.index t a = 0) t
  show outV m c _ = outV m c _
  congr 1
  funext a
  exact Fin.ext (win0_2.rect_emb_val_of_index_zero t a (hi a) y).symm

/-! ## The buffers at hand -/

/-- The buffers the body addresses itself. -/
def hs : Finset (DevRef τ sig) := {Proc.devRef .tc main_arg0}
/-- The buffers that are no window's array. -/
def sr : Finset (DevRef τ sig) := Pipeline.ucRefs τ sig \ Pipeline.arrRefs spec0
/-- The array the kernel copies from by hand is among the others. -/
theorem hs_sub : hs ⊆ sr := by decide
/-- The windows' arrays are among all arrays. -/
theorem arr_sub : Pipeline.arrRefs spec0 ⊆ Pipeline.ucRefs τ sig := by decide

/-- Holding it is holding `x`. -/
theorem held_hs (c : Dev nD) (W : Valuation τ sig (Elt F)) : (StableHlo.held (c : Thread nD τ) hs W : sProp 𝕄) = pt c main_arg0 (W main_arg0) := by
  unfold StableHlo.held hs; rw [bigSep_singleton]

/-- All arrays are the windows' and the others. -/
theorem held_all (c : Dev nD) (W : Valuation τ sig (Elt F)) : (StableHlo.held (c : Thread nD τ) (Pipeline.ucRefs τ sig) W : sProp 𝕄)
    = iprop(StableHlo.held (c : Thread nD τ) (Pipeline.arrRefs spec0) W ∗ StableHlo.held (c : Thread nD τ) sr W) :=
  StableHlo.held_sub_split (c : Thread nD τ) arr_sub W

/-- The scratch buffers, one by one. -/
theorem rest_eq (c : Dev nD) : (Pipeline.scopedRest (Ix := Unit) (Name := ℕ) (U := UU) (Lvl := ℕ) (Val := Elt F) (Pipeline.pin (pcfgs (F := F)) adm 0).spec c : sProp 𝕄)
    = iprop(any c cc0_scratch0 ∗ any c cc0_scratch1 ∗ any c cc0_scratch2 ∗ any c cc0_scratch3 ∗ any c cc0_scratch4 ∗ any c cc0_scratch5
      ∗ any c cc0_scratch6 ∗ any c cc0_scratch7) :=
  scopedRest0_eq c

/-- The kernel's own counters. -/
abbrev osem : Fin 6 → SemLoc sig := fun | 0 => .dma ld0 | 1 => .dma ld1 | 2 => .dma snd0 | 3 => .dma snd1 | 4 => .dma rcv0 | 5 => .dma rcv1
/-- The kernel's own semaphores, one by one. -/
theorem own_eq (c : Dev nD) : (Pipeline.ownSems0 osem c : sProp 𝕄)
    = iprop(semVal ((c : Thread nD τ), .dma ld0) 0 ∗ semVal ((c : Thread nD τ), .dma ld1) 0
      ∗ semVal (sndC0 c) 0 ∗ semVal (sndC1 c) 0 ∗ semVal (rcvC0 c) 0 ∗ semVal (rcvC1 c) 0) :=
  Pipeline.ownSems0_eq_of_list c osem [0, 1, 2, 3, 4, 5] (by decide) (by decide)

/-! ## Into the kernel and out of it -/

/-- From the launch. -/
def tk (c : Dev nD) : sProp 𝕄 := iprop((∃ K, ghost m K c) ∗ creds c)
/-- With the scoped cells open. -/
def xk (c : Dev nD) : sProp 𝕄 := iprop(talk m c ∗ semVal ((c : Thread nD τ), .dma ld0) 0 ∗ semVal ((c : Thread nD τ), .dma ld1) 0)

/-- The kernel's counters open the scoped cells. -/
theorem opening (c : Dev nD) : iprop(tk m c ∗ Pipeline.ownSems0 osem c ∗ levAts L lv) ⊢ (|={Set.univ}=> xk m c : sProp 𝕄) := by
  rw [own_eq]
  unfold tk xk talk ghost opened
  iintro ⟨⟨⟨%K, ⟨#HI, HaB, ⟨Ho0, Ho1, Ho2, Ho3⟩, #HrP, Ht⟩⟩, Hc⟩, ⟨Hd0, Hd1, Hs0, Hs1, Hv0, Hv1⟩, #Hlev⟩
  ihave HI' := (Entails.of_eq (invs.eq_1 m K c)) $$ HI
  icases HI' with ⟨#I1, #I2, #I3, #I4, #I5, -⟩
  imod (Rounds.cell_open ER (Rd m) (g := sndC0 c) (Set.mem_univ (K (sndC0 c)))) $$ [Ho0 Hs0] with ⟨Ha0, #Hr0⟩
  · isplitr; · iexact I2
    isplitl [Ho0] <;> iassumption
  imod (Rounds.cell_open ER (Rd m) (g := sndC1 c) (Set.mem_univ (K (sndC1 c)))) $$ [Ho1 Hs1] with ⟨Ha1, #Hr1⟩
  · isplitr; · iexact I3
    isplitl [Ho1] <;> iassumption
  imod (Rounds.cell_open ER (Rd m) (g := rcvC0 c) (Set.mem_univ (K (rcvC0 c)))) $$ [Ho2 Hv0] with ⟨Ha2, #Hr2⟩
  · isplitr; · iexact I4
    isplitl [Ho2] <;> iassumption
  imod (Rounds.cell_open ER (Rd m) (g := rcvC1 c) (Set.mem_univ (K (rcvC1 c)))) $$ [Ho3 Hv1] with ⟨Ha3, #Hr3⟩
  · isplitr; · iexact I5
    isplitl [Ho3] <;> iassumption
  imodintro
  isplitr [Hd0 Hd1]
  · isplitl [HaB Ha0 Ha1 Ha2 Ha3 Ht]
    · iexists K
      isplitr; · iexact HI
      isplitl [HaB]; · iexact HaB
      isplitl [Ha0 Ha1 Ha2 Ha3]
      · isplitl [Ha0]; · iexact Ha0
        isplitl [Ha1]; · iexact Ha1
        isplitl [Ha2] <;> iassumption
      isplitr
      · isplitr; · iexact HrP
        isplitr; · iexact Hr0
        isplitr; · iexact Hr1
        isplitr; · iexact Hr2
        iexact Hr3
      iexact Ht
    isplitl [Hc]; · iexact Hc
    iexact Hlev
  isplitl [Hd0] <;> iassumption

/-- What is held on entering the kernel is what its first point needs. -/
theorem entering (c : Dev nD) : iprop(Pipeline.scopedRest (Pipeline.pin (pcfgs (F := F)) adm 0).spec c ∗ (∃ r, prngReg c r)
      ∗ StableHlo.held (c.tc : Thread nD τ) hs (V0 m c) ∗ xk m c) ⊢ (pdats m 0 c).Φ 0 := by
  rw [rest_eq, held_hs, show (pdats m 0 c).Φ 0 = phi0 m c from phi_zero m c]
  unfold xk phi0 base
  iintro ⟨⟨H0, H1, H2, H3, H4, H5, H6, H7⟩, Hp, HX, Ht, Hd0, Hd1⟩
  isplitl [HX Hp Hd0 Hd1 H1 H4 H5 H6 H7]
  · isplitl [HX]; · iexact HX
    isplitl [Hp]; · iexact Hp
    isplitl [Hd0]; · iexact Hd0
    isplitl [Hd1]; · iexact Hd1
    isplitl [H1]; · iexact H1
    isplitl [H4]; · iexact H4
    isplitl [H5]; · iexact H5
    isplitl [H6] <;> iassumption
  isplitl [Ht]; · iexact Ht
  isplitl [H0]; · iexact H0
  isplitl [H2] <;> iassumption

/-- What is held after the last point. -/
theorem last_phi (c : Dev nD) : (pdats m 0 c).Φ (Fin.last (Pipeline.pin (pcfgs (F := F)) adm 0).N) = phiEnd m c :=
  phi_end m c (n := cfg0.N) (by rw [show cfg0.N = 16 from N_0])

/-- Nothing is owed after the last point. -/
theorem last_owed (c : Dev nD) : (pdats (F := F) m 0 c).owed (Fin.last (Pipeline.pin (pcfgs (F := F)) adm 0).N) = 0 :=
  owing_end c (n := cfg0.N) (by rw [show cfg0.N = 16 from N_0])

/-- What the last point leaves is what is held on leaving the kernel. -/
theorem leaving (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) hs (V2 m c) ∗ Pipeline.ownSems0 osem c ∗ semVal (barC c) 0) := by
  rw [last_phi, rest_eq, held_hs, own_eq, V2_rest m c main_arg0 (by decide)]
  unfold phiEnd base quiet
  iintro ⟨⟨HX, Hp, Hd0, Hd1, H1, H4, H5, H6, H7⟩, ⟨Hb, Hs0, Hs1, Hv0, Hv1⟩, H0, H2, H3⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  isplitl [Hp]; · iexact Hp
  isplitl [HX]; · iexact HX
  isplitr [Hb]
  · isplitl [Hd0]; · iexact Hd0
    isplitl [Hd1]; · iexact Hd1
    isplitl [Hs0]; · iexact Hs0
    isplitl [Hs1]; · iexact Hs1
    isplitl [Hv0] <;> iassumption
  iexact Hb

/-- The side conditions of the launch. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- All that a device owes is at cells above the bottom. -/
theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = owing c t.val := rfl
  rw [e] at h; unfold owing at h
  split at h
  · rcases O₀_pos h with rfl | rfl | rfl
    · exact ⟨(L_tc _ _).symm ▸ Finset.mem_singleton_self _, by exact (by decide : 0 < 2)⟩
    · exact ⟨(L_tc _ _).symm ▸ Finset.mem_singleton_self _, by exact (by decide : 0 < 2)⟩
    · exact ⟨(L_tc _ _).symm ▸ Finset.mem_singleton_self _, by exact (by decide : 0 < 1)⟩
  · exact absurd h (Nat.lt_irrefl 0)

/-- The staging buffers' counters lie at the bottom. -/
theorem staging_low (c : Dev nD) (w : Fin cfg0.W) (s : Fin (cfg0.win w).nbuf) : lv ((c : Thread nD τ), .dma ((cfg0.win w).sem s)) () ≤ 0 := by
  have h : ∀ (w : Fin cfg0.W) (s : Fin (cfg0.win w).nbuf), (cfg0.win w).sem s ≠ rcv0 ∧ (cfg0.win w).sem s ≠ rcv1 := by decide
  unfold lv
  rw [if_neg (fun e => dma_ne_bar _ e), if_neg]
  rintro (e | e)
  · exact (h w s).1 (SemLoc.dma.inj e)
  · exact (h w s).2 (SemLoc.dma.inj e)

/-! ## The segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- Beside the buffers, up to the kernel. -/
def R0 (c : Dev nD) : sProp 𝕄 := iprop(tk m c ∗ (∃ r, prngReg c r) ∗ ∃ W, owes (c : Thread nD τ) (O₀ c) W)
/-- And after it. -/
def R2 (c : Dev nD) : sProp 𝕄 := iprop(semVal (barC c) 0 ∗ ∃ W, owes (c : Thread nD τ) (0 : CellTallies nD τ sig Unit) W)

/-- What holds of one holds of all of a list of one. -/
theorem mem_single {α : Type} {P : α → Prop} {a : α} (h : P a) : ∀ x ∈ [a], P x := fun x hx => by
  rw [List.mem_singleton] at hx; subst hx; exact h

/-- The labels reshaped. -/
def seg0 : ℍ := Pipeline.HostSeg.ofOps _ _ _ _ _ (Pipeline.ucRefs τ sig) hostOps0
  (mem_single (Pipeline.sub_ucRefs _ (StableHlo.reshape_bufs_sub ..))) (mem_single rfl) (VI m) (R0 m)
/-- The result reshaped. -/
def seg2 : ℍ := Pipeline.HostSeg.ofOps _ _ _ _ _ (Pipeline.ucRefs τ sig) hostOps1
  (mem_single (Pipeline.sub_ucRefs _ (StableHlo.reshape_bufs_sub ..))) (mem_single rfl) (V2 m) R2

set_option backward.isDefEq.respectTransparency.types false in
def seg1 : ℝ𝕊 0 :=
  Pipeline.RegionSeg.ofTalk (pcfgs (F := F)) adm (pdats m) () defs₀ 𝒱₀ L lv 0 osem (by decide : Pipeline.OwnSemFacts spec0 osem)
    hs sr hs_sub kit rfl (fun c => (body_ok m c).loose)
    (fun _ => 0) O₀ (fun c => (owing_lt c (by decide : 0 < 16)).trans (zero_add _).symm)
    (fun c => last_owed m c) (fun _ => rfl) (fun c w => by fin_cases w <;> rfl)
    (V0 m) (V2 m) (fun c b hb => by
      rcases (by decide : ∀ b ∈ (sr \ hs : Finset (DevRef τ sig)), b = Proc.devRef .tc main_arg2 ∨ b = Proc.devRef .tc main_v3) b hb with rfl | rfl
      · exact V2_rest m c main_arg2 (by decide)
      · exact V2_rest m c main_v3 (by decide))
    (tk m) (fun c => semVal (barC c) 0) (xk m) (fun c => semVal (barC c) 0) (opening m) (entering m) (leaving m)
    (fun c => by iintro H; imodintro; iexact H)
    (fun _ => 0)
    ⟨fun c w s => (L_tc c _).symm ▸ Finset.mem_singleton_self _, fun c w s => staging_low c w s, fun c t g i h => cut m c t g i h⟩
    (fun _ => iprop(emp))
    (fun c w => rfl) (fun c w => (V2_arr m c w).symm)

/-- The program as its segments. -/
def segs : List (Pipeline.Seg (pcfgs (F := F)) adm (pdats m) () defs₀ 𝒱₀ L lv) := [.host (seg0 m), .region (seg1 m), .host (seg2 m)]

/-- The program is its three segments in order. -/
theorem main_eq (c : Dev nD) : main (F := F) c = Pipeline.Seg.run (segs m) :=
  main_segs adm (pdats m) () 𝒱₀ L lv (seg0 m) (seg2 m) (seg1 m) rfl rfl c

/-- The first segment leaves what the kernel takes. -/
theorem into (c : Dev nD) : (seg0 m).post c ⊢ (seg1 m).pre c := by
  show iprop(StableHlo.held (c : Thread nD τ) (Pipeline.ucRefs τ sig) (V0 m c) ∗ R0 m c) ⊢
    iprop(StableHlo.held (c : Thread nD τ) (Pipeline.arrRefs spec0) (V0 m c) ∗ (∃ r, prngReg c r)
      ∗ (StableHlo.held (c : Thread nD τ) sr (V0 m c) ∗ emp) ∗ tk m c ∗ ∃ W, owes (c : Thread nD τ) (0 + O₀ c) W)
  rw [held_all, zero_add]
  unfold R0
  iintro ⟨⟨Ha, Hs⟩, Ht, Hp, HO⟩
  isplitl [Ha]; · iexact Ha
  isplitl [Hp]; · iexact Hp
  isplitl [Hs]
  · isplitl [Hs]; · iexact Hs
    ipureintro; trivial
  isplitl [Ht] <;> iassumption

/-- The kernel leaves what the last segment takes. -/
theorem onward (c : Dev nD) : (seg1 m).post c ⊢ (seg2 m).pre c := by
  show iprop(StableHlo.held (c : Thread nD τ) (Pipeline.arrRefs spec0) (V2 m c) ∗ (∃ r, prngReg c r)
      ∗ (StableHlo.held (c : Thread nD τ) sr (V2 m c) ∗ emp) ∗ semVal (barC c) 0 ∗ ∃ W, owes (c : Thread nD τ) (0 : CellTallies nD τ sig Unit) W) ⊢
    iprop(StableHlo.held (c : Thread nD τ) (Pipeline.ucRefs τ sig) (V2 m c) ∗ R2 c)
  rw [held_all]
  unfold R2
  iintro ⟨Ha, -, ⟨Hs, -⟩, Hb, HO⟩
  isplitl [Ha Hs]
  · isplitl [Ha] <;> iassumption
  isplitl [Hb] <;> iassumption

end Cert.KernelIdeal.Run

end
-- ==== Proof.Launch.lean ====
/-
  The launch: the exchange's cells funded and dealt to the devices, with what each device is to pay and wait for.
-/
module

public import proofs.«01_k».proof.Proof.Region

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ
variable (m : (ℓ : Loc nD τ sig) → Buf (Elt F) ℓ) (ρ : Dev nD → PrngReg)

/-! ## The cells and the duties -/

/-- The scoped cells, by number. -/
abbrev scSem : Fin 4 → SemLoc sig := fun | 0 => .dma snd0 | 1 => .dma snd1 | 2 => .dma rcv0 | 3 => .dma rcv1
/-- All five cells of a device, by number. -/
abbrev allSem : Fin 5 → SemLoc sig := fun | 0 => .reg barS | 1 => .dma rcv0 | 2 => .dma rcv1 | 3 => .dma snd0 | 4 => .dma snd1
/-- The four copy semaphores are different. -/
theorem scSem_inj : Function.Injective scSem := by decide
/-- All five semaphores of the exchange are different. -/
theorem allSem_inj : Function.Injective allSem := by decide
/-- None of the copies' semaphores is the barrier's. -/
theorem scSem_ne_bar : ∀ k : Fin 4, scSem k ≠ .reg barS := by decide

/-- The devices' barrier cells. -/
def barEmb : Dev nD ↪ GSem nD τ sig := ⟨fun c => barC c, fun _ _ h => congrArg (fun g : GSem nD τ sig => g.1.1) h⟩
/-- The devices' copy cells. -/
def scEmb : Dev nD × Fin 4 ↪ GSem nD τ sig :=
  ⟨fun p => ((p.1 : Thread nD τ), scSem p.2), fun _ _ h =>
    Prod.ext (congrArg (fun g : GSem nD τ sig => g.1.1) h) (scSem_inj (congrArg Prod.snd h))⟩
/-- The tokens of the duties, one for each device and semaphore. -/
def tokEmb : Dev nD × Fin 5 ↪ GSem nD τ sig × ℕ × Unit :=
  ⟨fun p => (((p.1 : Thread nD τ), allSem p.2), 0, ()), fun _ _ h =>
    Prod.ext (congrArg (fun x : GSem nD τ sig × ℕ × Unit => x.1.1.1) h) (allSem_inj (congrArg (fun x : GSem nD τ sig × ℕ × Unit => x.1.2) h))⟩

/-- The barriers: their counters are there from the launch. -/
def barCells : Finset (GSem nD τ sig) := Finset.univ.map barEmb
/-- The send and landing cells: their counters come with the kernel. -/
def scCells : Finset (GSem nD τ sig) := Finset.univ.map scEmb
/-- One duty to each cell. -/
def allToks : Finset (GSem nD τ sig × ℕ × Unit) := Finset.univ.map tokEmb

/-- No barrier cell is a copy cell. -/
theorem cells_disjoint : Disjoint barCells scCells := by
  rw [Finset.disjoint_left]
  intro g h₁ h₂
  obtain ⟨c, -, rfl⟩ := Finset.mem_map.mp h₁
  obtain ⟨p, -, h⟩ := Finset.mem_map.mp h₂
  exact scSem_ne_bar p.2 (congrArg Prod.snd h)

/-- A barrier cell is among the cells. -/
theorem bar_mem (c : Dev nD) : barC c ∈ barCells ∪ scCells := Finset.mem_union_left _ (Finset.mem_map_of_mem barEmb (Finset.mem_univ c))
/-- A copy cell is among the cells. -/
theorem sc_mem (c : Dev nD) (k : Fin 4) : ((c : Thread nD τ), scSem k) ∈ barCells ∪ scCells :=
  Finset.mem_union_right _ (Finset.mem_map_of_mem scEmb (Finset.mem_univ (c, k)))

/-- The launch's ghost element. -/
def u₀ : UU :=
  (initOf (Pipeline.cells (Pipeline.pin (pcfgs (F := F)) adm) cellOf_inj) (Pipeline.launchToks (Pipeline.pin (pcfgs (F := F)) adm) cellOf_inj),
    (launchOf barCells scCells allToks, 1))

/-- The exchange's launch element. -/
def fund : sProp 𝕄 := BI.own (ER (launchOf barCells scCells allToks))
/-- It is kept by the first device until it is dealt. -/
def G (c : Dev nD) : sProp 𝕄 := if c = 0 then fund else iprop(emp)
/-- What the devices keep together is the whole of it. -/
theorem bigSep_G : bigSep Finset.univ (G (F := F)) = fund := by
  rw [bigSep_univ_at _ (0 : Dev nD), bigSep_congr (s := Finset.univ.erase (0 : Dev nD)) (Ψ := fun _ => (BI.emp : sProp 𝕄))
    (fun c hc => by unfold G; rw [if_neg (Finset.ne_of_mem_erase hc)]; rfl), BI.bigSep_emp_const]
  unfold G; rw [if_pos rfl]
  exact BI.equiv_iff.mp sep_emp

/-! ## Records and holdings -/

/-- What every device may consult: all the invariants, and every barrier's first round. -/
def records (κ : GSem nD τ sig → ℕ) : sProp 𝕄 :=
  iprop((bigSep (barCells ∪ scCells) fun g => cellInv ER (Rd m) (κ g) g) ∗ bigSep barCells fun g => reached ER g 0)
/-- The records of the cells may be used any number of times. -/
instance records_persistent (κ : GSem nD τ sig → ℕ) : BI.Persistent (records m κ) := by unfold records; infer_instance

/-- Of all the cells' invariants, one cell's. -/
theorem inv_of (κ : GSem nD τ sig → ℕ) {g : GSem nD τ sig} (hg : g ∈ barCells ∪ scCells) :
    (bigSep (barCells ∪ scCells) fun g => (cellInv ER (Rd m) (κ g) g : sProp 𝕄)) ⊢ cellInv ER (Rd m) (κ g) g := bigSep_elim hg
/-- Of all that has been reached, one barrier's first round. -/
theorem reached_of (c : Dev nD) : (bigSep barCells fun g => (reached ER g 0 : sProp 𝕄)) ⊢ reached ER (barC c) 0 :=
  bigSep_elim (Finset.mem_map_of_mem barEmb (Finset.mem_univ c))

/-- The rights to open a device's scoped cells. -/
def opens (c : Dev nD) : sProp 𝕄 := iprop(openTok ER (sndC0 c) ∗ openTok ER (sndC1 c) ∗ openTok ER (rcvC0 c) ∗ openTok ER (rcvC1 c))

/-- The records and a device's own tokens make its ghost state. -/
theorem ghost_of (κ : GSem nD τ sig → ℕ) (c : Dev nD) :
    iprop(records m κ ∗ (atPos ER (barC c) 0 ∅ 0 ∗ opens c ∗ toks c)) ⊢ (iprop(∃ K, ghost m K c) : sProp 𝕄) := by
  unfold records ghost opens invs
  iintro ⟨⟨#HI, #HR⟩, Ha, Ho, Ht⟩
  iexists κ
  isplitr
  · isplitr; · iapply (inv_of m κ (bar_mem c)); iexact HI
    isplitr; · iapply (inv_of m κ (sc_mem c 0)); iexact HI
    isplitr; · iapply (inv_of m κ (sc_mem c 1)); iexact HI
    isplitr; · iapply (inv_of m κ (sc_mem c 2)); iexact HI
    isplitr; · iapply (inv_of m κ (sc_mem c 3)); iexact HI
    isplitr; · iapply (inv_of m κ (bar_mem (pr c))); iexact HI
    isplitr; · iapply (inv_of m κ (sc_mem (pr c) 2)); iexact HI
    iapply (inv_of m κ (sc_mem (pr c) 3)); iexact HI
  isplitl [Ha]; · iexact Ha
  isplitl [Ho]; · iexact Ho
  isplitr; · iapply (reached_of (F := F) (pr c)); iexact HR
  iexact Ht

/-- The duties at a device's own cells. -/
def own (c : Dev nD) : sProp 𝕄 :=
  iprop(dutyTok ER (barC c) 0 () ∗ dutyTok ER (rcvC0 c) 0 () ∗ dutyTok ER (rcvC1 c) 0 () ∗ dutyTok ER (sndC0 c) 0 () ∗ dutyTok ER (sndC1 c) 0 ())

/-- All tokens are the devices' own tokens together. -/
theorem toks_split : bigSep allToks (fun x => (dutyTok ER x.1 x.2.1 x.2.2 : sProp 𝕄)) = bigSep Finset.univ fun c : Dev nD => own c := by
  unfold allToks; rw [bigSep_map, bigSep_univ_prod]
  refine bigSep_congr fun c _ => ?_
  rw [show (Finset.univ : Finset (Fin 5)) = {0, 1, 2, 3, 4} from by decide, bigSep_insert (by decide), bigSep_insert (by decide),
    bigSep_insert (by decide), bigSep_insert (by decide), bigSep_singleton]
  rfl

/-- All cells' opening tokens are the devices' together. -/
theorem opens_split : bigSep scCells (fun g => (openTok ER g : sProp 𝕄)) = bigSep Finset.univ fun c : Dev nD => opens c := by
  unfold scCells; rw [bigSep_map, bigSep_univ_prod]
  refine bigSep_congr fun c _ => ?_
  rw [show (Finset.univ : Finset (Fin 4)) = {0, 1, 2, 3} from by decide, bigSep_insert (by decide), bigSep_insert (by decide),
    bigSep_insert (by decide), bigSep_singleton]
  rfl

/-- The duties at barriers and landing cells go to the peers. -/
theorem toks_dealt : (bigSep Finset.univ fun c : Dev nD => (own c : sProp 𝕄)) = bigSep Finset.univ fun c : Dev nD => toks c := by
  unfold own toks
  rw [bigSep_sep', bigSep_sep', bigSep_sep', bigSep_sep', bigSep_sep', bigSep_sep', bigSep_sep', bigSep_sep',
    bigSep_univ_equiv flip (fun c : Dev nD => (dutyTok ER (barC c) 0 () : sProp 𝕄)),
    bigSep_univ_equiv flip (fun c : Dev nD => (dutyTok ER (rcvC0 c) 0 () : sProp 𝕄)),
    bigSep_univ_equiv flip (fun c : Dev nD => (dutyTok ER (rcvC1 c) 0 () : sProp 𝕄))]
  rfl

/-! ## The credit -/

/-- A peer's cell that is a device's own is the peer of that device's. -/
theorem cell_dev {d c : Dev nD} {sm sm' : SemLoc sig} (h : (((pr d : Dev nD) : Thread nD τ), sm) = ((c : Thread nD τ), sm')) : d = pr c := by
  have e : pr d = c := congrArg (fun g : GSem nD τ sig => g.1.1) h
  rw [← e, pr_pr]

/-- A device's barrier is owed one unit by its peer alone. -/
theorem owed_bar (d c : Dev nD) : O₀ d (barC c) () = if d = pr c then 1 else 0 := by
  unfold O₀ O₁
  rw [Pi.add_apply, Finsupp.add_apply, Pi.add_apply, Finsupp.add_apply, tallyAt_ne_cell (fun h => bar_ne_dma _ (congrArg Prod.snd h)),
    tallyAt_ne_cell (fun h => bar_ne_dma _ (congrArg Prod.snd h)), tallyAt_apply, Finsupp.zero_apply, Nat.zero_add, Nat.zero_add]
  by_cases h : d = pr c
  · subst h; rw [pr_pr, if_pos ⟨rfl, rfl⟩, if_pos rfl]
  · rw [if_neg (fun e => h (cell_dev e.1.symm)), if_neg h]

/-- A device's first receive cell is owed a copy by its peer alone. -/
theorem owed_rcv0 (d c : Dev nD) : O₀ d (rcvC0 c) () = if d = pr c then N else 0 := by
  unfold O₀ O₁
  rw [Pi.add_apply, Finsupp.add_apply, Pi.add_apply, Finsupp.add_apply, tallyAt_apply,
    tallyAt_ne_cell (g := rcvC1 (pr d)) (fun h => absurd (congrArg Prod.snd h) (by exact (by decide : ¬ (SemLoc.dma rcv0 : SemLoc sig) = .dma rcv1))),
    tallyAt_ne_cell (g := barC (pr d)) (fun h => dma_ne_bar _ (congrArg Prod.snd h)), Finsupp.zero_apply, Nat.add_zero, Nat.add_zero]
  by_cases h : d = pr c
  · subst h; rw [pr_pr, if_pos ⟨rfl, rfl⟩, if_pos rfl]
  · rw [if_neg (fun e => h (cell_dev e.1.symm)), if_neg h]

/-- A device's second receive cell is owed a copy by its peer alone. -/
theorem owed_rcv1 (d c : Dev nD) : O₀ d (rcvC1 c) () = if d = pr c then N else 0 := by
  unfold O₀ O₁
  rw [Pi.add_apply, Finsupp.add_apply, Pi.add_apply, Finsupp.add_apply,
    tallyAt_ne_cell (g := rcvC0 (pr d)) (fun h => absurd (congrArg Prod.snd h) (by exact (by decide : ¬ (SemLoc.dma rcv1 : SemLoc sig) = .dma rcv0))),
    tallyAt_apply,
    tallyAt_ne_cell (g := barC (pr d)) (fun h => dma_ne_bar _ (congrArg Prod.snd h)), Finsupp.zero_apply, Nat.zero_add, Nat.add_zero]
  by_cases h : d = pr c
  · subst h; rw [pr_pr, if_pos ⟨rfl, rfl⟩, if_pos rfl]
  · rw [if_neg (fun e => h (cell_dev e.1.symm)), if_neg h]

/-- The credit at a cell is what the peer owes it. -/
theorem credit_at (g : GSem nD τ sig) (c : Dev nD) (n : ℕ) (h : ∀ d, O₀ d g () = if d = pr c then n else 0) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (pr c) fun _ => n,
    if_pos (Finset.mem_univ _)]

/-- The launch gives each device its credits. -/
theorem creds_of (c : Dev nD) : (Pipeline.launchCred O₀ c : sProp 𝕄) ⊢ creds c := by
  unfold Pipeline.launchCred creds
  rw [← credit_at (barC c) c 1 (fun d => owed_bar d c), ← credit_at (rcvC0 c) c N (fun d => owed_rcv0 d c),
    ← credit_at (rcvC1 c) c N (fun d => owed_rcv1 d c),
    bigSep_univ_at _ (SemLoc.reg barS), bigSep_erase (i := SemLoc.dma rcv0) (Finset.mem_erase.mpr ⟨dma_ne_bar _, Finset.mem_univ _⟩)]
  exact sep_mono_right (sep_mono_right (bigSep_elim (Finset.mem_erase.mpr ⟨by decide, Finset.mem_erase.mpr ⟨dma_ne_bar _, Finset.mem_univ _⟩⟩)))

/-! ## The launch's step -/

/-- Two families held together are held device by device. -/
theorem pair_up {Φ Ψ : Dev nD → sProp 𝕄} : iprop(bigSep Finset.univ Φ ∗ bigSep Finset.univ Ψ) ⊢ bigSep Finset.univ (fun c => iprop(Φ c ∗ Ψ c)) :=
  Entails.of_eq (bigSep_sep' _ _ _).symm
/-- And back. -/
theorem pair_off {Φ Ψ : Dev nD → sProp 𝕄} : bigSep Finset.univ (fun c => iprop(Φ c ∗ Ψ c)) ⊢ iprop(bigSep Finset.univ Φ ∗ bigSep Finset.univ Ψ) :=
  Entails.of_eq (bigSep_sep' _ _ _)

/-- A device's launch holdings beside the exchange's. -/
def rest (c : Dev nD) : sProp 𝕄 :=
  iprop(StableHlo.held (c : Thread nD τ) (Pipeline.ucRefs τ sig) (VI m c) ∗ creds c ∗ owes (c : Thread nD τ) (O₀ c) ∅ ∗ ∃ r, prngReg c r)

/-- What the first segment takes. -/
def T₀ (c : Dev nD) : sProp 𝕄 := iprop(StableHlo.held (c : Thread nD τ) (Pipeline.ucRefs τ sig) (VI m c) ∗ R0 m c)

/-- What a device starts the program with. -/
theorem T₀_of (κ : GSem nD τ sig → ℕ) (c : Dev nD) :
    iprop(records m κ ∗ ((atPos ER (barC c) 0 ∅ 0 ∗ opens c ∗ toks c) ∗ rest m c)) ⊢ (T₀ m c : sProp 𝕄) := by
  unfold rest T₀ R0 tk
  iintro ⟨#HR, Hl, Hh, Hc, HO, Hp⟩
  isplitl [Hh]; · iexact Hh
  isplitl [Hl Hc]
  · isplitl [Hl]
    · iapply (ghost_of m κ c)
      isplitr; · iexact HR
      iexact Hl
    iexact Hc
  isplitl [Hp]; · iexact Hp
  iexists ∅; iexact HO

/-- The one semaphore outside the kernel's own scope is the barrier's. -/
theorem unscoped_one (c : Dev nD) : (unscopedSems0 c : sProp 𝕄) = semVal (barC c) 0 := by
  unfold unscopedSems0
  rw [show (Finset.univ.filter fun sm : SemLoc sig => ¬ sm.isScoped .tc) = {SemLoc.reg barS} from by decide, bigSep_singleton]

/-- From the launch holdings of all devices to what their first segments take. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have one (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(rest m c ∗ (semVal (barC c) 0 ∗ G c)) : sProp 𝕄) := by
    rw [show unscopedBufs c (fun b => m ((c : Thread nD τ).loc b)) = StableHlo.held (c : Thread nD τ) (Pipeline.ucRefs τ sig) (VI m c) from
      Pipeline.unscopedBufs_held c (VI m c), unscoped_one]
    unfold rest
    iintro ⟨Hh, Hb, HO, Hc, Hp, HG⟩
    isplitl [Hh HO Hc Hp]
    · isplitl [Hh]; · iexact Hh
      isplitl [Hc]; · iapply (creds_of (F := F) c) $$ Hc
      isplitl [HO]; · iexact HO
      iexists (ρ c); iexact Hp
    isplitl [Hb] <;> iassumption
  have counters : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have places : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  iintro ⟨H, -⟩
  ihave H1 := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(rest m c ∗ (semVal (barC c) 0 ∗ G c)) : sProp 𝕄) from bigSep_mono fun c _ => one c) $$ H
  ihave H2 := pair_off $$ H1
  icases H2 with ⟨HB, H3⟩
  ihave H4 := pair_off $$ H3
  icases H4 with ⟨Hv, HG⟩
  ihave Hu := (show bigSep Finset.univ (G (F := F)) ⊢ BI.own (ER (launchOf barCells scCells allToks)) from
    Entails.of_eq (bigSep_G (F := F))) $$ HG
  imod (Rounds.fund_launch ER (Rd m) cells_disjoint (fun g _ h => h) allToks) $$ [Hv Hu] with ⟨%κ, -, #Hinv, #Hr, Hat, Hopen, Htok⟩
  · isplitl [Hv]
    · iapply counters $$ Hv
    · iexact Hu
  imodintro
  iapply (bigSep_with_persistent (R := records m κ) (Φ := fun c => iprop((atPos ER (barC c) 0 ∅ 0 ∗ opens c ∗ toks c) ∗ rest m c)) fun c _ => T₀_of m κ c)
  isplitr
  · unfold records
    isplitr; · iexact Hinv
    iexact Hr
  iapply pair_up
  isplitr [HB]
  · iapply pair_up; isplitl [Hat]; · iapply places $$ Hat
    iapply pair_up; isplitl [Hopen]; · iapply (Entails.of_eq (opens_split (F := F))) $$ Hopen
    iapply (Entails.of_eq ((toks_split (F := F)).trans (toks_dealt (F := F)))) $$ Htok
  · iexact HB

end Cert.KernelIdeal.Run

end
-- ==== Proof.Run.lean ====
/-
  The run: every device ends with its result reshaped, its arguments as launched and every counter at zero.
-/
module

public import proofs.«01_k».proof.Proof.Launch

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ
variable (m : (ℓ : Loc nD τ sig) → Buf (Elt F) ℓ) (ρ : Dev nD → PrngReg)

/-- The result of device `c`: the region's column, as a vector. -/
def result (c : Dev nD) : Vec F S2048 .f32 := shapeCast S2048 (outV m c) shapeCasts_S2048x1_S2048

/-- At the end the result array holds the result. -/
theorem V3_v3 (c : Dev nD) : V3 m c (Proc.devRef .tc main_v3) = result m c := by
  unfold V3 result
  show StableHlo.after [StableHlo.reshape main_v2 main_v3 _ _] (V2 m c) (Proc.devRef .tc main_v3) = _
  rw [StableHlo.after_cons, StableHlo.after_nil, StableHlo.reshape_result, (V2_arr m c 2).trans (flushed_2 m c)]
  rfl
/-- Reshaping the result changes no other array. -/
theorem V3_rest (c : Dev nD) (b : Ref sig .tc) (h : main_v3 ≠ b) : V3 m c (Proc.devRef .tc b) = V2 m c (Proc.devRef .tc b) := by
  unfold V3
  show StableHlo.after [StableHlo.reshape main_v2 main_v3 _ _] (V2 m c) (Proc.devRef .tc b) = _
  rw [StableHlo.after_cons, StableHlo.after_nil]
  exact StableHlo.reshape_result_ne _ _ _ _ _ _ _ (Ne.symm h)
/-- At the end `x` is as launched. -/
theorem V3_arg0 (c : Dev nD) : V3 m c (Proc.devRef .tc main_arg0) = m ((c : Thread nD τ).loc main_arg0) :=
  (V3_rest m c main_arg0 (by decide)).trans ((V2_rest m c main_arg0 (by decide)).trans (V_main_arg0 m c))
/-- At the end `W` is as launched. -/
theorem V3_arg1 (c : Dev nD) : V3 m c (Proc.devRef .tc main_arg1) = m ((c : Thread nD τ).loc main_arg1) :=
  (V3_rest m c main_arg1 (by decide)).trans ((V2_arr m c 0).trans (((dat m c).arrAt_in 0 rfl _).trans (V_main_arg1 m c)))
/-- At the end the labels are as launched. -/
theorem V3_arg2 (c : Dev nD) : V3 m c (Proc.devRef .tc main_arg2) = m ((c : Thread nD τ).loc main_arg2) :=
  (V3_rest m c main_arg2 (by decide)).trans ((V2_rest m c main_arg2 (by decide)).trans (V_main_arg2 m c))

/-- All arrays, one by one. -/
theorem held_list (c : Dev nD) (W : Valuation τ sig (Elt F)) :
    (StableHlo.held (c : Thread nD τ) (Pipeline.ucRefs τ sig) W : sProp 𝕄)
      = iprop(pt c main_arg0 (W main_arg0) ∗ pt c main_arg1 (W main_arg1) ∗ pt c main_arg2 (W main_arg2) ∗ pt c main_v1 (W main_v1)
        ∗ pt c main_v2 (W main_v2) ∗ pt c main_v3 (W main_v3)) := by
  unfold StableHlo.held
  rw [show Pipeline.ucRefs τ sig = ({Proc.devRef .tc main_arg0, Proc.devRef .tc main_arg1, Proc.devRef .tc main_arg2, Proc.devRef .tc main_v1,
      Proc.devRef .tc main_v2, Proc.devRef .tc main_v3} : Finset (DevRef τ sig)) from by decide,
    bigSep_insert (by decide), bigSep_insert (by decide), bigSep_insert (by decide), bigSep_insert (by decide), bigSep_insert (by decide),
    bigSep_singleton]
  rfl

/-- What the last segment leaves. -/
def Tₙ (c : Dev nD) : sProp 𝕄 := iprop(StableHlo.held (c : Thread nD τ) (Pipeline.ucRefs τ sig) (V3 m c) ∗ semVal (barC c) 0)

/-- What the last segment leaves is what a device ends with. -/
theorem ending (c : Dev nD) : (seg2 m).post c ⊢ iprop(Tₙ m c ∗ ∃ W, owes (c : Thread nD τ) (0 : CellTallies nD τ sig Unit) W) := by
  show iprop(StableHlo.held (c : Thread nD τ) (Pipeline.ucRefs τ sig) (V3 m c) ∗ R2 c) ⊢ _
  unfold Tₙ R2
  iintro ⟨Hh, Hb, HO⟩
  isplitr [HO]
  · isplitl [Hh] <;> iassumption
  iexact HO

/-- What a device's final holdings say of the memory. -/
def final (c : Dev nD) (s : MemSt nD τ sig (Elt F)) : Prop :=
  (s.mem ((c : Thread nD τ).loc main_v3) = result m c ∧ s.mem ((c : Thread nD τ).loc main_arg0) = m ((c : Thread nD τ).loc main_arg0)
    ∧ s.mem ((c : Thread nD τ).loc main_arg1) = m ((c : Thread nD τ).loc main_arg1) ∧ s.mem ((c : Thread nD τ).loc main_arg2) = m ((c : Thread nD τ).loc main_arg2))
  ∧ s.sem (barC c) = 0

/-- What a device ends with says what the memory holds. -/
theorem read_off (c : Dev nD) (s : Phys nD τ sig (Elt F)) : iprop(Tₙ m c ∗ SI s) ⊢ (|={Set.univ}=> iprop(⌜final m c s.mem⌝ ∗ SI s) : sProp 𝕄) := by
  unfold Tₙ
  rw [held_list, V3_v3, V3_arg0, V3_arg1, V3_arg2]
  iintro ⟨⟨⟨H0, H1, H2, -, -, H3⟩, Hb⟩, HSI⟩
  icombine HSI H0 gives %h0
  icombine HSI H1 gives %h1
  icombine HSI H2 gives %h2
  icombine HSI H3 gives %h3
  icombine HSI Hb gives %hb
  imodintro
  isplitr
  · ipureintro
    exact ⟨⟨Buf.eq_of_forall_mem_univ h3, Buf.eq_of_forall_mem_univ h0, Buf.eq_of_forall_mem_univ h1, Buf.eq_of_forall_mem_univ h2⟩, by simpa using hb⟩
  iexact HSI

/-- The only semaphore outside the kernel's scope is the barrier's. -/
theorem unscoped_is : ∀ sm : SemLoc sig, sm.isScoped .tc = false → sm = .reg barS := by decide

/-- The ghost state that the run starts with. -/
theorem start_own : (ownU (u₀ (F := F)) : sProp 𝕄)
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ (G (F := F))) := by
  unfold u₀
  iintro Hu
  ihave H := (ownU_pair _ _) $$ Hu
  icases H with ⟨HP, HX⟩
  ihave H' := (own_pair_emb embR (launchOf barCells scCells allToks) (1 : Counters)) $$ HX
  icases H' with ⟨HE, -⟩
  imodintro
  isplitl [HP]; · iexact HP
  rw [bigSep_G]; unfold fund ER; iexact HE

set_option backward.isDefEq.respectTransparency.types false in
/-- From any memory with zero counters every fair execution ends, with each device's result the mathematics' of its arguments and its
    peer's, the arguments as launched and every counter at zero. -/
theorem run_main : θ_run defs (onTc (τ := τ) (main (F := F))) ⟨m, fun _ => 0, ρ⟩
    (fun r => (∀ c : Dev nD, r.2.mem ((c : Thread nD τ).loc main_v3) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀) (hu₀ := start_own)
    (T₀ := T₀ m) (Tₙ := Tₙ m)
    (hch := ⟨fun c => .rfl, fun c => into m c, fun c => onward m c, fun c => ending m c⟩)
    (hinit := init m ρ) (QY := final m) (hfin := read_off m)
    (hQ := fun s h hs => ⟨fun c => (h c).1, sem_eq_zero hs fun c sm hsm => by
      obtain rfl := unscoped_is sm hsm
      exact (h c).2⟩)

end Cert.KernelIdeal.Run

end
-- ==== Proof.Sums.lean ====
/-
The sums over the reals behind the kernel: a row of 8192 columns cut into 16 blocks of 512, each block into four pieces of
128 columns; and the logarithm of a sum of exponentials with a number taken out first. Nothing here mentions a program.
-/
module

public import Idealize.ShloMosaic.PureOps.Ideal

@[expose] public section

noncomputable section

namespace Cert.KernelIdeal.Run

open Finset

/-- The four columns, 128 apart, that lane `v` of block `b` takes in. -/
def four (f : ℕ → ℝ) (b v : ℕ) : ℝ :=
  f (512 * b + v) + f (512 * b + (128 + v)) + f (512 * b + (256 + v)) + f (512 * b + (384 + v))

/-- The first `p + q` terms are the first `p` and then `q` more. -/
theorem sum_add (f : ℕ → ℝ) (p q : ℕ) :
    ∑ j ∈ range (p + q), f j = ∑ j ∈ range p, f j + ∑ j ∈ range q, f (p + j) :=
  sum_range_add f p q

/-- One block's 128 lanes of four columns are the block's 512 columns. -/
theorem sum_four (f : ℕ → ℝ) (b : ℕ) :
    ∑ v ∈ range 128, four f b v = ∑ j ∈ range 512, f (512 * b + j) := by
  have h1 := sum_add (fun j => f (512 * b + j)) 384 128
  have h2 := sum_add (fun j => f (512 * b + j)) 256 128
  have h3 := sum_add (fun j => f (512 * b + j)) 128 128
  simp only [Nat.reduceAdd] at h1 h2 h3
  rw [h1, h2, h3]
  simp only [four, sum_add_distrib]

/-- The first `n` blocks' columns are the first `512 n` columns. -/
theorem sum_blocks (f : ℕ → ℝ) (n : ℕ) :
    ∑ b ∈ range n, ∑ j ∈ range 512, f (512 * b + j) = ∑ j ∈ range (512 * n), f j := by
  induction n with
  | zero => simp
  | succ n ih => rw [sum_range_succ, ih, Nat.mul_succ, sum_add]

/-- The lanes' sums over the sixteen blocks, summed over the lanes: the sum over all 8192 columns. -/
theorem sum_lanes (f : ℕ → ℝ) :
    ∑ v : Fin 128, ∑ b ∈ range 16, four f b v.val = ∑ j ∈ range 8192, f j := by
  rw [sum_comm]
  rw [← sum_blocks f 16]
  refine sum_congr rfl fun b _ => ?_
  rw [← sum_four f b, Finset.sum_range]

/-- Two halves of 8192 columns, taken in either order, are all 16384. -/
theorem sum_halves (f : ℕ → ℝ) (y : ℕ) (hy : y < 2) :
    ∑ j ∈ range 8192, f (8192 * y + j) + ∑ j ∈ range 8192, f (8192 * (1 - y) + j) = ∑ j ∈ range 16384, f j := by
  have h := sum_add f 8192 8192
  simp only [Nat.reduceAdd] at h
  rw [h]
  rcases Nat.lt_succ_iff.mp hy |>.eq_or_lt with rfl | h0
  · simp [add_comm]
  · obtain rfl : y = 0 := by omega
    simp

/-- Picking one column out of all by a test at every column. -/
theorem sum_pick (f : ℕ → ℝ) (n k : ℕ) (hk : k < n) : ∑ j ∈ range n, (if k = j then f j else 0) = f k := by
  rw [sum_ite_eq (range n) k f, if_pos (mem_range.mpr hk)]

/-- The logarithm of a sum of exponentials, a number `M` taken from every exponent and added back. -/
theorem log_sum_exp {ι : Type} [Fintype ι] [Nonempty ι] (f : ι → ℝ) (M : ℝ) :
    M + Real.log (∑ i, Real.exp (f i - M)) = Real.log (∑ i, Real.exp (f i)) := by
  have h : (∑ i, Real.exp (f i)) = Real.exp M * ∑ i, Real.exp (f i - M) := by
    rw [mul_sum]
    refine sum_congr rfl fun i _ => ?_
    rw [← Real.exp_add]; congr 1; ring
  have hp : 0 < ∑ i, Real.exp (f i - M) := sum_pos (fun i _ => Real.exp_pos _) univ_nonempty
  rw [h, Real.log_mul (Real.exp_pos _).ne' hp.ne', Real.log_exp]

/-- A finite sum of reals read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The largest of finitely many reals, at least one, taken in the extended reals from `⊥`, is a real. -/
theorem fold_max_real {n : ℕ} (f : Fin (n + 1) → ℝ) :
    ∃ M : ℝ, (univ : Finset (Fin (n + 1))).fold max (⊥ : EReal) (fun i => (f i : EReal)) = M := by
  have h : ∀ s : Finset (Fin (n + 1)), s.fold max (⊥ : EReal) (fun i => (f i : EReal)) = ⊥ ∧ s = ∅ ∨
      ∃ M : ℝ, s.fold max (⊥ : EReal) (fun i => (f i : EReal)) = M := by
    classical
    intro s
    induction s using Finset.induction_on with
    | empty => left; simp
    | insert a s ha ih =>
      right
      rw [fold_insert ha]
      rcases ih with ⟨h, _⟩ | ⟨M, h⟩
      · exact ⟨f a, by rw [h]; simp⟩
      · exact ⟨max (f a) M, by rw [h]; exact (EReal.coe_strictMono.monotone.map_max).symm⟩
  rcases h univ with ⟨_, h⟩ | h
  · exact absurd h univ_nonempty.ne_empty
  · exact h

end Cert.KernelIdeal.Run

end
-- ==== Proof.Block.lean ====
/-
  What one block computes at the ideal numbers: every vector expression of the kernel read at one place, and — its
  operands being reals — its value there as a real.
-/
module

public import proofs.«01_k».proof.Proof.Contents
public import proofs.«01_k».proof.Proof.Sums
public import Idealize.ShloMosaic.Lib.Pointwise
public import Idealize.ShloMosaic.Lib.Pipeline.ValueKit.Geometry

@[expose] public section

set_option maxRecDepth 16384

noncomputable section

namespace Cert.KernelIdeal.Run

open Idealize.ShloMosaic Idealize.ShloMosaic.TcCoe
open Cert.KernelIdeal Cert.KernelIdeal.Gen

/-! ### The constants -/

/-- The word `0x41000000` is the number 8. -/
theorem const_8 : Ideal.ofBits .f32 1090519040#32 = ((8 : ℝ) : EReal) := by
  simp [Ideal.ofBits, Ideal.ieee, -EReal.coe_mul]; norm_num
/-- The word `0x43000000` is the number 128. -/
theorem const_128 : Ideal.ofBits .f32 1124073472#32 = ((128 : ℝ) : EReal) := by
  simp [Ideal.ofBits, Ideal.ieee, -EReal.coe_mul]; norm_num
/-- The word `0x3A800000` is the number 1/1024. -/
theorem const_1024 : Ideal.ofBits .f32 981467136#32 = ((1 / 1024 : ℝ) : EReal) := by
  simp [Ideal.ofBits, Ideal.ieee, -EReal.coe_mul]; norm_num

/-! ### The vector expressions at one place -/

/-- The scaled copy of `x` at a place. -/
theorem x8of_at (x : Vec Ideal S2048x4096 .f32) (r : Fin 2048) (k : Fin 4096) :
    x8of x (ix2 r k) = x (ix2 r k) * Ideal.ofBits .f32 1090519040#32 := by
  unfold x8of; pointwise
/-- The block's scaled-back product at a place. -/
theorem pay12_at (w : Vec Ideal S4096x512 .f32) (q : Vec Ideal S2048x4096 .fp8e4m3) (r : Fin 2048) (v : Fin 512) :
    k0_pay12 w q (ix2 r v) =
      (∑ k, q (ix2 r k) * (w (ix2 k v) * Ideal.ofBits .f32 1124073472#32)) * Ideal.ofBits .f32 981467136#32 := by
  unfold k0_pay12; pointwise
/-- The running sum of exponentials after one block, at a lane. -/
theorem pay13_at (w : Vec Ideal S4096x512 .f32) (q : Vec Ideal S2048x4096 .fp8e4m3) (s : Vec Ideal S2048x128 .f32)
    (r : Fin 2048) (v : Fin 128) :
    k0_pay13 w q s (ix2 r v) = s (ix2 r v) +
      (Ideal.exp (k0_pay12 w q (ix2 r ⟨v.val, by omega⟩)) + Ideal.exp (k0_pay12 w q (ix2 r ⟨128 + v.val, by omega⟩))
        + Ideal.exp (k0_pay12 w q (ix2 r ⟨256 + v.val, by omega⟩))
        + Ideal.exp (k0_pay12 w q (ix2 r ⟨384 + v.val, by omega⟩))) := by
  simp only [k0_pay13, k0_pay12]; pointwise

/-- Whether lane `s` of the block at which the columns `o` to `o + 511` lie holds the label's column, as the program
    tests it. -/
abbrev atLabel (s : ℕ) (lab o : BitVec 32) (z : EReal) : EReal :=
  Scalar.select (IntOp.cmpi .eq (BitVec.ofNat 32 s) (IntOp.subi lab o)) z 0

/-- The running sum of the label's column after one block, at a lane. -/
theorem pay1_at (a y b : BitVec 32) (z : Vec Ideal S2048x512 .f32) (lab : Vec Ideal S2048x1 .i32)
    (s : Vec Ideal S2048x128 .f32) (r : Fin 2048) (v : Fin 128) :
    k0_pay1 a y z b lab s (ix2 r v) = s (ix2 r v) +
      (atLabel v.val (lab (ix2 r 0)) (Scalar.addi (Scalar.muli y b) (Scalar.muli a 512#32)) (z (ix2 r ⟨v.val, by omega⟩))
        + atLabel (128 + v.val) (lab (ix2 r 0)) (Scalar.addi (Scalar.muli y b) (Scalar.muli a 512#32)) (z (ix2 r ⟨128 + v.val, by omega⟩))
        + atLabel (256 + v.val) (lab (ix2 r 0)) (Scalar.addi (Scalar.muli y b) (Scalar.muli a 512#32)) (z (ix2 r ⟨256 + v.val, by omega⟩))
        + atLabel (384 + v.val) (lab (ix2 r 0)) (Scalar.addi (Scalar.muli y b) (Scalar.muli a 512#32)) (z (ix2 r ⟨384 + v.val, by omega⟩))) := by
  unfold k0_pay1; pointwise
/-- The lanes' sums of exponentials added up. -/
theorem pay6_at (s : Vec Ideal S2048x128 .f32) (r : Fin 2048) : k0_pay6 s (ix2 r 0) = ∑ v, s (ix2 r v) := by
  unfold k0_pay6; pointwise
/-- The lanes' label columns added up. -/
theorem pay7_at (s : Vec Ideal S2048x128 .f32) (r : Fin 2048) : k0_pay7 s (ix2 r 0) = ∑ v, s (ix2 r v) := by
  unfold k0_pay7; pointwise
/-- The result of a row from the two devices' sums. -/
theorem pay2_at (s1 s2 s3 s4 : Vec Ideal S2048x1 .f32) (r : Fin 2048) :
    k0_pay2 s1 s2 s3 s4 (ix2 r 0) =
      Ideal.log (s1 (ix2 r 0) + s2 (ix2 r 0)) - (s3 (ix2 r 0) + s4 (ix2 r 0)) := by
  unfold k0_pay2; pointwise
/-- The running sums start at zero. -/
theorem pay10_at (r : Fin 2048) (v : Fin 128) : k0_pay10 (F := Ideal) (ix2 r v) = 0 := by
  unfold k0_pay10; pointwise
/-- The running sums of the label's column start at zero. -/
theorem pay11_at (r : Fin 2048) (v : Fin 128) : k0_pay11 (F := Ideal) (ix2 r v) = 0 := by
  unfold k0_pay11; pointwise

/-! ### The blocks the kernel reads -/

section
variable (m : (ℓ : Loc nD τ sig) → Buf (Elt Ideal) ℓ) (c : Dev nD)

/-- Where the block of `W` at a grid point lies. -/
theorem index_w : ∀ t : Fin cfg0.N, win0_0.index t = ![0, t.val] := by decide +kernel
/-- The labels' block is the whole array at every grid point. -/
theorem index_lab : ∀ t : Fin cfg0.N, win0_1.index t = ![0, 0] := by decide +kernel

/-- The block of `W` at a grid point holds 512 columns of the device's `W`. -/
theorem w_at (t : Fin cfg0.N) (k : Fin 4096) (v : Fin 512) (h : 512 * t.val + v.val < 8192) :
    iblk m c 0 t (ix2 k v) = m ((c : Thread nD τ).loc main_arg1) (ix2 k ⟨512 * t.val + v.val, h⟩) := by
  unfold iblk
  blk_simp
  rw [← V_main_arg1 m c]
  refine congrArg (V m c main_arg1) ?_
  funext a
  refine Fin.ext ?_
  fin_cases a
  · blk_simp [index_w]; simp
  · blk_simp [index_w]; simp; exact Nat.mul_comm _ _

/-- The column of labels before the kernel is the array of labels. -/
theorem v1_at (r : Fin 2048) : V m c main_v1 (ix2 r 0) = m ((c : Thread nD τ).loc main_arg2) (ix1 r) := by
  show StableHlo.after [StableHlo.reshape main_arg2 main_v1 _ _] (fun b => m (c, b)) (Proc.devRef .tc main_v1) _ = _
  rw [StableHlo.after_cons, StableHlo.after_nil, StableHlo.reshape_result]
  pointwise

/-- The labels' block at a row is that row's label. -/
theorem lab_at (t : Fin cfg0.N) (r : Fin 2048) :
    iblk m c 1 t (ix2 r 0) = m ((c : Thread nD τ).loc main_arg2) (ix1 r) := by
  rw [← v1_at m c r]
  unfold iblk
  blk_simp
  refine congrArg (V m c main_v1) ?_
  funext a
  refine Fin.ext ?_
  fin_cases a
  · blk_simp [index_lab]
  · blk_simp [index_lab]

end

end Cert.KernelIdeal.Run

end
-- ==== Proof.Rows.lean ====
/-
  What the kernel's arrays hold at the ideal numbers: the two running sums after every block, a device's two sums over
  its half of the columns, and from two devices' halves the whole result — each as a real, in terms of the row's
  products with the columns of `W`.
-/
module

public import proofs.«01_k».proof.Proof.Block

@[expose] public section

set_option maxRecDepth 16384

noncomputable section

namespace Cert.KernelIdeal.Run

open Idealize.ShloMosaic Idealize.ShloMosaic.TcCoe
open Cert.KernelIdeal Cert.KernelIdeal.Gen
open Finset (range)

/-- The column of the mesh's cut axis device `c` is in. -/
def yOf (c : Dev nD) : ℕ := c.val / 4 % 2

/-- The grid has sixteen points. -/
theorem N_cfg : cfg0.N = 16 := N_0

/-- The column word the kernel computes is that column. -/
theorem myY_eq : ∀ c : Dev nD, myY c = BitVec.ofNat 32 (yOf c) := by decide +kernel
/-- A device's peer is in the other column. -/
theorem yOf_pr : ∀ c : Dev nD, yOf (pr c) = 1 - yOf c := by decide +kernel
/-- There are two columns. -/
theorem yOf_lt (c : Dev nD) : yOf c < 2 := Nat.mod_lt _ (by decide)

/-- The program's test of a lane is the test of the column it stands for. -/
theorem atLabel_real (lab : BitVec 32) (hl : lab.toNat < 16384) (y n s : ℕ) (hy : y < 2) (hn : n < 16) (hs : s < 512)
    (z : ℝ) :
    atLabel s lab (Scalar.addi (Scalar.muli (BitVec.ofNat 32 y) 8192#32) (Scalar.muli (BitVec.ofNat 32 n) 512#32)) z =
      ((if lab.toNat = 8192 * y + (512 * n + s) then z else 0 : ℝ) : EReal) := by
  have e : (BitVec.ofNat 32 s = lab - (BitVec.ofNat 32 y * 8192#32 + BitVec.ofNat 32 n * 512#32)) ↔
      lab.toNat = 8192 * y + (512 * n + s) := by
    rw [← BitVec.toNat_inj]
    simp only [BitVec.toNat_ofNat, BitVec.toNat_sub, BitVec.toNat_add, BitVec.toNat_mul]
    omega
  by_cases h : lab.toNat = 8192 * y + (512 * n + s)
  · rw [if_pos h]
    have := e.mpr h
    simp [atLabel, Scalar.select, IntOp.cmpi, IntOp.subi, Scalar.addi, Scalar.muli, IntOp.addi, IntOp.muli, this]
  · rw [if_neg h]
    have := beq_eq_false_iff_ne.mpr (mt e.mp h)
    simp [atLabel, Scalar.select, IntOp.cmpi, IntOp.subi, Scalar.addi, Scalar.muli, IntOp.addi, IntOp.muli, this]

section
variable (m : (ℓ : Loc nD τ sig) → Buf (Elt Ideal) ℓ)
variable (xr : Fin 2048 → Fin 4096 → ℝ) (wr : Fin 4096 → ℕ → ℝ)

/-- Row `r` of `x` times column `j` of `W`. -/
def lg (r : Fin 2048) (j : ℕ) : ℝ := ∑ k, xr r k * wr k j

/-- The arrays of device `c` are these reals: `x`, the device's half of the columns of `W`, and labels that name
    columns. -/
structure Holds (c : Dev nD) : Prop where
  x : ∀ r k, m ((c : Thread nD τ).loc main_arg0) (ix2 r k) = (xr r k : EReal)
  w : ∀ (k : Fin 4096) (j : Fin 8192), m ((c : Thread nD τ).loc main_arg1) (ix2 k j) = (wr k (8192 * yOf c + j.val) : EReal)
  lab : ∀ r : Fin 2048, (m ((c : Thread nD τ).loc main_arg2) (ix1 r) : BitVec 32).toNat < 16384

/-- A block's product at a place, its row eight times a row of reals: the two scalings and the scaling back cancel. -/
theorem pay12_coe (w : Vec Ideal S4096x512 .f32) (q : Vec Ideal S2048x4096 .fp8e4m3) (r : Fin 2048) (v : Fin 512)
    (f g : Fin 4096 → ℝ) (hq : ∀ k, q (ix2 r k) = ((f k * 8 : ℝ) : EReal)) (hw : ∀ k, w (ix2 k v) = (g k : EReal)) :
    k0_pay12 w q (ix2 r v) = ((∑ k, f k * g k : ℝ) : EReal) := by
  have e : ∀ k : Fin 4096, q (ix2 r k) * (w (ix2 k v) * Ideal.ofBits .f32 1124073472#32) =
      ((f k * 8 * (g k * 128) : ℝ) : EReal) := by
    intro k
    rw [hq, hw, const_128, ← EReal.coe_mul, ← EReal.coe_mul]
  rw [pay12_at, Finset.sum_congr rfl (fun k _ => e k), ← coe_sum, const_1024, ← EReal.coe_mul]
  congr 1
  rw [Finset.sum_mul]
  refine Finset.sum_congr rfl fun k _ => ?_
  ring

variable {m xr wr} {c : Dev nD} (H : Holds m xr wr c)
include H

/-- A block's product at a place is the row times the column. -/
theorem pay12_real (t : Fin cfg0.N) (r : Fin 2048) (s : ℕ) (hs : s < 512) :
    k0_pay12 (iblk m c 0 t) (X8 m c) (ix2 r ⟨s, hs⟩) = ((lg xr wr r (8192 * yOf c + (512 * t.val + s)) : ℝ) : EReal) := by
  have ht : t.val < 16 := N_cfg ▸ t.isLt
  have hb : 512 * t.val + s < 8192 := by omega
  refine pay12_coe _ _ r ⟨s, hs⟩ (fun k => xr r k) (fun k => wr k (8192 * yOf c + (512 * t.val + s))) ?_ ?_
  · intro k
    unfold X8
    rw [x8of_at, V_main_arg0, H.x r k, const_8, EReal.coe_mul]
  · intro k
    exact (w_at m c t k ⟨s, hs⟩ hb).trans (H.w k ⟨_, hb⟩)

/-- The running sum of exponentials after `n` blocks. -/
theorem accS_real (r : Fin 2048) (v : Fin 128) : ∀ n, n ≤ 16 →
    accS m c n (ix2 r v) =
      ((∑ b ∈ range n, four (fun j => Real.exp (lg xr wr r (8192 * yOf c + j))) b v.val : ℝ) : EReal) := by
  intro n
  induction n with
  | zero => intro _; exact (pay10_at r v).trans (by simp)
  | succ n ih =>
    intro hn
    have hN : n < cfg0.N := by rw [N_cfg]; omega
    have h := accS_succ m c ⟨n, hN⟩
    simp only at h
    rw [h, pay13_at, ih (by omega), pay12_real H _ r _ (by omega), pay12_real H _ r _ (by omega),
      pay12_real H _ r _ (by omega), pay12_real H _ r _ (by omega), Finset.sum_range_succ]
    simp only [Ideal.exp_coe, ← EReal.coe_add]
    rfl

/-- The running sum of the label's column after `n` blocks. -/
theorem accL_real (r : Fin 2048) (v : Fin 128) : ∀ n, n ≤ 16 →
    accL m c n (ix2 r v) =
      ((∑ b ∈ range n, four (fun j => if (m ((c : Thread nD τ).loc main_arg2) (ix1 r) : BitVec 32).toNat = 8192 * yOf c + j
          then lg xr wr r (8192 * yOf c + j) else 0) b v.val : ℝ) : EReal) := by
  intro n
  induction n with
  | zero => intro _; exact (pay11_at r v).trans (by simp)
  | succ n ih =>
    intro hn
    have hN : n < cfg0.N := by rw [N_cfg]; omega
    have h := accL_succ m c ⟨n, hN⟩
    simp only at h
    have hy := yOf_lt c
    have hl := H.lab r
    rw [h, pay1_at, ih (by omega), pay12_real H _ r _ (by omega), pay12_real H _ r _ (by omega),
      pay12_real H _ r _ (by omega), pay12_real H _ r _ (by omega), Finset.sum_range_succ, lab_at, myY_eq,
      atLabel_real _ hl _ _ _ hy (by omega) (by omega), atLabel_real _ hl _ _ _ hy (by omega) (by omega),
      atLabel_real _ hl _ _ _ hy (by omega) (by omega), atLabel_real _ hl _ _ _ hy (by omega) (by omega)]
    simp only [← EReal.coe_add]
    rfl

/-- A device's sum of exponentials over its half of the columns. -/
theorem sumS_real (r : Fin 2048) :
    sumS m c (ix2 r 0) = ((∑ j ∈ range 8192, Real.exp (lg xr wr r (8192 * yOf c + j)) : ℝ) : EReal) := by
  unfold sumS
  rw [pay6_at, Finset.sum_congr rfl (fun v _ => accS_real H r v 16 le_rfl), ← coe_sum, sum_lanes]

/-- A device's sum of the label's column over its half of the columns. -/
theorem sumL_real (r : Fin 2048) :
    sumL m c (ix2 r 0) = ((∑ j ∈ range 8192, (if (m ((c : Thread nD τ).loc main_arg2) (ix1 r) : BitVec 32).toNat =
        8192 * yOf c + j then lg xr wr r (8192 * yOf c + j) else 0) : ℝ) : EReal) := by
  unfold sumL
  rw [pay7_at, Finset.sum_congr rfl (fun v _ => accL_real H r v 16 le_rfl), ← coe_sum, sum_lanes]

end

/-- The result's row on a device, from its own half of the columns and its peer's. -/
theorem result_real {m : (ℓ : Loc nD τ sig) → Buf (Elt Ideal) ℓ} {xr : Fin 2048 → Fin 4096 → ℝ} {wr : Fin 4096 → ℕ → ℝ}
    {c : Dev nD} (H : Holds m xr wr c) (H' : Holds m xr wr (pr c)) (r : Fin 2048) (l : ℕ)
    (hl : (m ((c : Thread nD τ).loc main_arg2) (ix1 r) : BitVec 32).toNat = l)
    (hl' : (m ((pr c : Thread nD τ).loc main_arg2) (ix1 r) : BitVec 32).toNat = l) :
    outV m c (ix2 r 0) =
      ((Real.log (∑ j ∈ range 16384, Real.exp (lg xr wr r j)) - lg xr wr r l : ℝ) : EReal) := by
  have hlt : l < 16384 := hl ▸ H.lab r
  have hy := yOf_lt c
  have hpos : 0 < ∑ j ∈ range 16384, Real.exp (lg xr wr r j) :=
    Finset.sum_pos (fun j _ => Real.exp_pos _) ⟨0, Finset.mem_range.mpr (by decide)⟩
  unfold outV
  rw [pay2_at, sumS_real H, sumS_real H', sumL_real H, sumL_real H', hl, hl', yOf_pr, ← EReal.coe_add, ← EReal.coe_add,
    sum_halves (fun j => Real.exp (lg xr wr r j)) (yOf c) hy,
    sum_halves (fun j => if l = j then lg xr wr r j else 0) (yOf c) hy, sum_pick _ _ _ hlt, Ideal.log_coe,
    if_neg (not_le.mpr hpos), ← EReal.coe_sub]

end Cert.KernelIdeal.Run

end
-- ==== Proof.Reference.lean ====
/-
  What the reference computes at the ideal numbers: its result's row as a real, in terms of the row's products with the
  columns of `W`.
-/
module

public import proofs.«01_k».proof.Proof.Sums
public import proofs.«01_k».proof.Proof.Gen.ReferenceIdeal
public import proofs.«01_k».proof.Proof.Gen.ReferenceIdeal.Run
public import Idealize.ShloMosaic.Lib.Pointwise
public import Idealize.ShloMosaic.Lib.StableHlo.Predicate

@[expose] public section

set_option maxRecDepth 16384

noncomputable section

namespace Cert.ReferenceIdeal.Rows

open Idealize.ShloMosaic Idealize.ShloMosaic.TcCoe
open Cert.ReferenceIdeal Cert.ReferenceIdeal.Gen

variable (x : FVec Ideal S2048x4096 .f32) (w : FVec Ideal S4096x16384 .f32) (lab : IVec S2048 32)

/-- The products of every row of `x` with every column of `W`. -/
def dots : FVec Ideal S2048x16384 .f32 := Host.dotGeneral dot_S2048x4096_S4096x16384_S2048x16384_1_0_0_1_n_n none x w
/-- Every row's largest entry. -/
def tops (z : FVec Ideal S2048x16384 .f32) : FVec Ideal S2048x1 .f32 :=
  broadcastInDim S2048x1 ![0] bcast_S2048_S2048x1_0 (Host.reduce FloatOps.maximumf z (constant S_ .f32 0xFF800000#32) reducesTo_S2048x16384_S2048_d1 h_S_)
/-- Every row's sum of exponentials, its largest entry taken from each exponent. -/
def sums (z : FVec Ideal S2048x16384 .f32) : FVec Ideal S2048 .f32 :=
  Host.reduceAdd (Host.exp (subf z (broadcastInDim S2048x16384 ![0, 1] bcast_S2048x1_S2048x16384_0_1 (tops z)))) (constant S_ .f32 0x00000000#32) reducesTo_S2048x16384_S2048_d1 h_S_
/-- The place the reference reads each row's label at: the row's number and the label, a negative one counted from the end. -/
def places : IVec S2048x2 32 :=
  concatenate S2048x2 1 [⟨S2048x1, (broadcastInDim S2048x1 ![0] bcast_S2048_S2048x1_0 (select (cmpi .slt (iotaInDim S2048 32 0) (broadcastInDim S2048 ![] bcast_S_S2048 (constantI S_ 32 0#32))) (addi (iotaInDim S2048 32 0) (broadcastInDim S2048 ![] bcast_S_S2048 (constantI S_ 32 2048#32))) (iotaInDim S2048 32 0)))⟩, ⟨S2048x1, (broadcastInDim S2048x1 ![0] bcast_S2048_S2048x1_0 (select (cmpi .slt lab (broadcastInDim S2048 ![] bcast_S_S2048 (constantI S_ 32 0#32))) (addi lab (broadcastInDim S2048 ![] bcast_S_S2048 (constantI S_ 32 16384#32))) lab))⟩] concatenates_S2048x1_S2048x1_S2048x2_d1
/-- The result from every row's largest entry, sum of exponentials and entry at the label. -/
def last (a : FVec Ideal S2048x1 .f32) (s g : FVec Ideal S2048 .f32) : FVec Ideal S2048 .f32 :=
  subf (shapeCast _ (addf a (Host.log (broadcastInDim S2048x1 ![0] bcast_S2048_S2048x1_0 s))) shapeCasts_S2048x1_S2048) g
/-- Every row's entry at its label. -/
def atLab (z : FVec Ideal S2048x16384 .f32) : FVec Ideal S2048 .f32 :=
  Host.gather gather_S2048x16384_S2048x2_S2048_n_01_n_n_01_1_11 z (places lab)
/-- The reference's result from its arguments. -/
def out : FVec Ideal S2048 .f32 := last (tops (dots x w)) (sums (dots x w)) (atLab lab (dots x w))

variable {x w lab}

/-- A choice by a number's being negative takes the second where it is not. -/
theorem select_nonneg {α : Type} {b : BitVec 32} (p q : α) (h : 0 ≤ b.toInt) : Scalar.select (IntOp.cmpi .slt b 0#32) p q = q := by
  have hb : b.slt 0#32 = false := by
    rw [BitVec.slt_eq_decide]; exact decide_eq_false (by rw [BitVec.toInt_zero]; omega)
  simp [Scalar.select, IntOp.cmpi, hb]

/-- An entry of the products. -/
theorem dots_at (r : Fin 2048) (j : Fin 16384) : dots x w (ix2 r j) = ∑ k, x (ix2 r k) * w (ix2 k j) := by
  unfold dots; pointwise
/-- A row's largest entry. -/
theorem tops_at (z : FVec Ideal S2048x16384 .f32) (r : Fin 2048) :
    tops z (ix2 r 0) = Finset.univ.fold max ⊥ (fun j => z (ix2 r j)) := by
  have hb : Ideal.ofBits .f32 0xFF800000#32 = ⊥ := by simp [Ideal.ofBits, Ideal.ieee]
  rw [← hb]
  unfold tops; pointwise
/-- A row's sum of exponentials. -/
theorem sums_at (z : FVec Ideal S2048x16384 .f32) (r : Fin 2048) :
    sums z (ix1 r) = ∑ j, Ideal.exp (z (ix2 r j) - tops z (ix2 r 0)) := by
  unfold sums; pointwise
/-- A row's place names the row. -/
theorem places_row (r : Fin 2048) : (places lab (ix2 r 0)).toInt = r.val := by
  have h : places lab (ix2 r 0) = Scalar.select (IntOp.cmpi .slt (BitVec.ofNat 32 r.val) 0#32)
      (IntOp.addi (BitVec.ofNat 32 r.val) 2048#32) (BitVec.ofNat 32 r.val) := by
    unfold places; pointwise
  have hi := StableHlo.Predicate.toInt_ofNat_small r.val (by omega)
  rw [h, select_nonneg _ _ (by rw [hi]; omega), hi]
/-- A row's place names the row's label, one that is not negative. -/
theorem places_col (r : Fin 2048) (h0 : 0 ≤ (lab (ix1 r)).toInt) : (places lab (ix2 r 1)).toInt = (lab (ix1 r)).toInt := by
  have h : places lab (ix2 r 1) = Scalar.select (IntOp.cmpi .slt (lab (ix1 r)) 0#32) (IntOp.addi (lab (ix1 r)) 16384#32)
      (lab (ix1 r)) := by
    unfold places; pointwise
  rw [h, select_nonneg _ _ h0]

/-- Reading single entries at places inside the array. -/
theorem gather_at (d : GatherDims S2048x16384 S2048x2 S2048) (hcoll : d.collapsedSliceDims = [0, 1])
    (hob : d.operandBatchingDims = []) (hsim : d.startIndexMap = [0, 1]) (hivd : d.indexVectorDim = 1)
    (z : FVec Ideal S2048x16384 .f32) (idx : IVec S2048x2 32) (r : Fin 2048) (a : Fin 2048) (b : Fin 16384)
    (ha : (idx (ix2 r 0)).toInt = a.val) (hb : (idx (ix2 r 1)).toInt = b.val) :
    Host.gather d z idx (ix1 r) = z (ix2 a b) := by
  have si : ∀ (c : Fin d.startIndexMap.length) (e : Fin 2), c.val = e.val → d.siIdx (ix1 r) c = ix2 r e := by
    intro c e he
    funext q
    match q with
    | ⟨0, _⟩ =>
      unfold GatherDims.siIdx
      rw [dif_neg (by rw [hivd]; simp)]
      unfold GatherDims.siCoord
      apply Fin.ext
      simp only [Fin.val_cast]
      have e : ∀ X : Fin 1, ((ix1 r : S2048.Idx) X).val = r.val := fun X => by
        have hX : X = 0 := Subsingleton.elim _ _
        subst hX; rfl
      exact e _
    | ⟨1, _⟩ =>
      unfold GatherDims.siIdx
      rw [dif_pos (by rw [hivd])]
      apply Fin.ext
      exact he
  have hk : ∀ q : Fin 2, q ∈ d.startIndexMap := by rw [hsim]; decide
  have hc : ∀ q : Fin 2, q ∈ d.collapsedSliceDims := by rw [hcoll]; decide
  have hn : ∀ q : Fin 2, q ∉ d.operandBatchingDims := by rw [hob]; exact fun _ => List.not_mem_nil
  have hs : ∀ q : Fin 2, q ∉ d.sKept := fun q h => ((d.mem_sKept q).mp h).1 (hc q)
  have hl : ∀ q : Fin 2, d.sliceSizes q = 1 := fun q => d.slice_collapsed q (hc q)
  have hx : ∀ q : Fin 2, List.idxOf q d.startIndexMap = q.val := by rw [hsim]; decide
  unfold Host.gather
  refine congrArg z (funext fun q => Fin.ext ?_)
  simp only [GatherDims.operandIdx, GatherDims.batchCoord_eq_zero _ _ _ (hn q), GatherDims.offCoord_eq_zero _ _ _ (hs q),
    Nat.add_zero, GatherDims.start, dif_pos (hk q), hl q]
  rw [si _ q (hx q)]
  match q with
  | ⟨0, _⟩ =>
    show min (idx (ix2 r 0)).toInt.toNat (2048 - 1) = a.val
    rw [ha]; have := a.isLt; omega
  | ⟨1, _⟩ =>
    show min (idx (ix2 r 1)).toInt.toNat (16384 - 1) = b.val
    rw [hb]; have := b.isLt; omega

/-- A row's entry at its label. -/
theorem atLab_at (z : FVec Ideal S2048x16384 .f32) (r : Fin 2048) (l : Fin 16384) (hl : (lab (ix1 r)).toInt = l.val) :
    atLab lab z (ix1 r) = z (ix2 r l) :=
  gather_at _ rfl rfl rfl rfl z (places lab) r r l (places_row r) ((places_col r (by omega)).trans hl)

/-- A row's result from its largest entry, its sum of exponentials and its entry at the label. -/
theorem last_at (a : FVec Ideal S2048x1 .f32) (s g : FVec Ideal S2048 .f32) (r : Fin 2048) :
    last a s g (ix1 r) = a (ix2 r 0) + Ideal.log (s (ix1 r)) - g (ix1 r) := by
  unfold last; pointwise

/-- The reference's row: the logarithm of the sum of the exponentials of the row's products, less the product at the label. -/
theorem out_real (xr : Fin 2048 → Fin 4096 → ℝ) (wr : Fin 4096 → ℕ → ℝ) (hx : ∀ r k, x (ix2 r k) = (xr r k : EReal))
    (hw : ∀ (k : Fin 4096) (j : Fin 16384), w (ix2 k j) = (wr k j.val : EReal)) (r : Fin 2048) (l : ℕ) (hlt : l < 16384)
    (hl : (lab (ix1 r)).toInt = l) :
    out x w lab (ix1 r) =
      ((Real.log (∑ j ∈ Finset.range 16384, Real.exp (∑ k, xr r k * wr k j)) - ∑ k, xr r k * wr k l : ℝ) : EReal) := by
  have hd : ∀ j : Fin 16384, dots x w (ix2 r j) = ((∑ k, xr r k * wr k j.val : ℝ) : EReal) := by
    intro j
    rw [dots_at, KernelIdeal.Run.coe_sum]
    exact Finset.sum_congr rfl fun k _ => by rw [hx, hw, EReal.coe_mul]
  obtain ⟨M, hM⟩ := KernelIdeal.Run.fold_max_real (n := 16383) (fun j => ∑ k, xr r k * wr k j.val)
  have ht : tops (dots x w) (ix2 r 0) = (M : EReal) := by
    rw [tops_at, ← hM]
    exact congrArg (fun f => Finset.univ.fold max ⊥ f) (funext hd)
  have hs : sums (dots x w) (ix1 r) = ((∑ j : Fin 16384, Real.exp ((∑ k, xr r k * wr k j.val) - M) : ℝ) : EReal) := by
    rw [sums_at, KernelIdeal.Run.coe_sum]
    exact Finset.sum_congr rfl fun j _ => by rw [hd, ht, ← EReal.coe_sub, Ideal.exp_coe]
  have hp : 0 < ∑ j : Fin 16384, Real.exp ((∑ k, xr r k * wr k j.val) - M) :=
    Finset.sum_pos (fun j _ => Real.exp_pos _) ⟨0, Finset.mem_univ _⟩
  unfold out
  rw [last_at, ht, hs, Ideal.log_coe, if_neg (not_le.mpr hp), atLab_at _ r ⟨l, hlt⟩ hl, hd, ← EReal.coe_add, ← EReal.coe_sub,
    KernelIdeal.Run.log_sum_exp, Finset.sum_range]

end Cert.ReferenceIdeal.Rows

end
-- ==== Proof.Equation.lean ====
/-
  The equation: under the precondition, a device's result is the reference's.
-/
module

public import proofs.«01_k».proof.Defs
public import proofs.«01_k».proof.Proof.Rows
public import proofs.«01_k».proof.Proof.Reference
public import proofs.«01_k».proof.Proof.Run

@[expose] public section

set_option maxRecDepth 16384

noncomputable section

namespace Cert.Equation

open Idealize.ShloMosaic Idealize.ShloMosaic.TcCoe
open Cert.KernelIdeal.Run (yOf yOf_lt lg Holds result_real result pr outV)

/-- The precondition's side conditions. -/
theorem preFacts : Cert.Pre_finite_and_labelled_KernelIdeal.Facts := ⟨by decide, by decide, by decide⟩
/-- The precondition's side conditions over the whole arrays. -/
theorem preFactsRef : Cert.Pre_finite_and_labelled_ReferenceIdeal.Facts := ⟨by decide, by decide, by decide⟩

section
open Cert.Pre_finite_and_labelled_KernelIdeal
attribute [local instance] preFacts
variable (x : FVec Ideal S2048x4096 .f32) (w : FVec Ideal S4096x8192 .f32) (lab : IVec S2048 32)

/-- What is less than infinity in absolute value is a real. -/
theorem real_of_lt (a : Ideal .f32) (h : BitVec.ofBool (decide (FloatOps.absf a < Ideal.ofBits .f32 0x7F800000#32)) = 1#1) :
    a = ((EReal.toReal a : ℝ) : EReal) := by
  have ht : Ideal.ofBits .f32 0x7F800000#32 = ⊤ := by simp [Ideal.ofBits, Ideal.ieee]
  rw [ht, StableHlo.Predicate.ofBool_eq_one_iff, decide_eq_true_eq] at h
  refine (EReal.coe_toReal ?_ ?_).symm
  · rintro rfl
    exact h.ne (by show max (⊤ : EReal) (-⊤) = ⊤; simp)
  · rintro rfl
    exact h.ne (by show max (⊥ : EReal) (-⊥) = ⊤; simp)

/-- Every entry of `x` is a real. -/
theorem x_real (h : (fn x w lab).1 = fun _ => 1#1) (r : Fin 2048) (k : Fin 4096) :
    x (ix2 r k) = ((EReal.toReal (x (ix2 r k)) : ℝ) : EReal) := by
  refine real_of_lt _ (Eq.trans ?_ (congrFun h (ix2 r k)))
  unfold fn; pointwise
/-- Every entry of a device's half of `W` is a real. -/
theorem w_real (h : (fn x w lab).2.1 = fun _ => 1#1) (k : Fin 4096) (j : Fin 8192) :
    w (ix2 k j) = ((EReal.toReal (w (ix2 k j)) : ℝ) : EReal) := by
  refine real_of_lt _ (Eq.trans ?_ (congrFun h (ix2 k j)))
  unfold fn; pointwise
/-- No label is negative. -/
theorem lab_ge (h : (fn x w lab).2.2.1 = fun _ => 1#1) (r : Fin 2048) : 0 ≤ (lab (ix1 r)).toInt := by
  have e : IntOp.cmpi .sge (lab (ix1 r)) 0#32 = 1#1 := by
    refine Eq.trans ?_ (congrFun h (ix1 r))
    unfold fn; pointwise
  simpa [IntOp.cmpi, StableHlo.Predicate.ofBool_eq_one_iff, BitVec.sle_eq_decide] using e
/-- Every label is below 16384. -/
theorem lab_lt (h : (fn x w lab).2.2.2 = fun _ => 1#1) (r : Fin 2048) : (lab (ix1 r)).toInt < 16384 := by
  have e : IntOp.cmpi .slt (lab (ix1 r)) 16384#32 = 1#1 := by
    refine Eq.trans ?_ (congrFun h (ix1 r))
    unfold fn; pointwise
  simpa [IntOp.cmpi, StableHlo.Predicate.ofBool_eq_one_iff, BitVec.slt_eq_decide] using e
end

/-- A device's half of the columns of `W`. -/
theorem block_at (c : Dev Cert.KernelIdeal.nD) (v : (⟨2, ![4096, 16384]⟩ : Shape).Idx → EReal) (k : Fin 4096) (j : Fin 8192)
    (h : 8192 * yOf c + j.val < 16384) :
    (Layout.blockN ⟨2, ![4096, 8192]⟩ ⟨2, ![4096, 16384]⟩ (Layout.meshBlock [2, 2, 4] ![[], [1]] c) v) (ix2 k j) =
      v (ix2 k ⟨8192 * yOf c + j.val, h⟩) := by
  rw [Layout.blockN_apply]
  refine congrArg v (funext fun a => Fin.ext ?_)
  rw [Layout.TilesN.idx_val]
  match a with
  | ⟨0, _⟩ =>
    show 0 * 4096 + k.val = k.val
    omega
  | ⟨1, _⟩ =>
    have : ∀ c : Dev Cert.KernelIdeal.nD, Layout.meshLin [2, 2, 4] c.val [1] = c.val / 4 % 2 := by decide
    show Layout.meshLin [2, 2, 4] c.val [1] * 8192 + j.val = 8192 * yOf c + j.val
    rw [this]; unfold yOf; omega

/-! ### The two programs' arrays -/

section
attribute [local instance] preFacts
variable (m : (ℓ : Loc Cert.KernelIdeal.nD Cert.KernelIdeal.τ Cert.KernelIdeal.sig) → Buf (Elt Ideal) ℓ)
variable (x : FVec Ideal Cert.ReferenceIdeal.S2048x4096 .f32) (w : FVec Ideal Cert.ReferenceIdeal.S4096x16384 .f32)
  (lab : IVec Cert.ReferenceIdeal.S2048 32)

/-- Every device holds `x` and the labels whole and its half of the columns of `W`. -/
def Laid : Prop := ∀ c : Dev Cert.KernelIdeal.nD,
  m ((c : Thread Cert.KernelIdeal.nD Cert.KernelIdeal.τ).loc Cert.KernelIdeal.main_arg0) = x
  ∧ m ((c : Thread Cert.KernelIdeal.nD Cert.KernelIdeal.τ).loc Cert.KernelIdeal.main_arg1) =
      Layout.blockN ⟨2, ![4096, 8192]⟩ ⟨2, ![4096, 16384]⟩ (Layout.meshBlock [2, 2, 4] ![[], [1]] c) w
  ∧ m ((c : Thread Cert.KernelIdeal.nD Cert.KernelIdeal.τ).loc Cert.KernelIdeal.main_arg2) = lab

/-- Column `j` of `W` at row `k` as a real, zero past the last column. -/
def wReal (k : Fin 4096) (j : ℕ) : ℝ := if h : j < 16384 then EReal.toReal (w (ix2 k ⟨j, h⟩)) else 0

variable {m x w lab}
variable (hm : Laid m x w lab) (hp : Cert.Pre_KernelIdeal_finite_and_labelled_KernelIdeal m)
include hm hp

/-- Every entry of `x` is a real. -/
theorem x_coe (r : Fin 2048) (k : Fin 4096) : x (ix2 r k) = ((EReal.toReal (x (ix2 r k)) : ℝ) : EReal) := by
  have h := x_real _ _ _ (hp 0).1 r k
  rwa [(hm 0).1] at h

/-- Every entry of `W` is a real: some device holds its column. -/
theorem w_coe (k : Fin 4096) (j : Fin 16384) : w (ix2 k j) = ((wReal w k j.val : ℝ) : EReal) := by
  have hj := j.isLt
  let c : Dev Cert.KernelIdeal.nD := ⟨4 * (j.val / 8192), by show _ < 16; omega⟩
  have hc : yOf c = j.val / 8192 := by show 4 * (j.val / 8192) / 4 % 2 = _; omega
  have h := w_real _ _ _ (hp c).2.1 k ⟨j.val % 8192, Nat.mod_lt _ (by decide)⟩
  have hi : 8192 * yOf c + j.val % 8192 < 16384 := by rw [hc]; omega
  have hv : 8192 * yOf c + j.val % 8192 = j.val := by rw [hc]; omega
  rw [(hm c).2.1, block_at c w k ⟨j.val % 8192, Nat.mod_lt _ (by decide)⟩ hi] at h
  have hf : (⟨8192 * yOf c + j.val % 8192, hi⟩ : Fin 16384) = j := Fin.ext hv
  simp only [hf] at h
  unfold wReal
  rw [dif_pos hj]
  exact h

/-- A label is at least 0 and below 16384. -/
theorem lab_bounds (r : Fin 2048) : 0 ≤ (lab (ix1 r)).toInt ∧ (lab (ix1 r)).toInt < 16384 := by
  have h0 := lab_ge _ _ _ (hp 0).2.2.1 r
  have h1 := lab_lt _ _ _ (hp 0).2.2.2 r
  rw [(hm 0).2.2] at h0 h1
  exact ⟨h0, h1⟩

/-- A label read unsigned is the label. -/
theorem lab_nat (r : Fin 2048) : (lab (ix1 r)).toInt = (lab (ix1 r)).toNat ∧ (lab (ix1 r)).toNat < 16384 := by
  have h := lab_bounds hm hp r
  have hi := BitVec.toInt_eq_toNat_cond (lab (ix1 r))
  have hl := (lab (ix1 r)).isLt
  split at hi <;> omega

/-- A device's arrays as reals. -/
theorem holds (c : Dev Cert.KernelIdeal.nD) : Holds m (fun r k => EReal.toReal (x (ix2 r k))) (wReal w) c where
  x r k := by rw [(hm c).1]; exact x_coe hm hp r k
  w k j := by
    have hy := yOf_lt c
    have hi : 8192 * yOf c + j.val < 16384 := by have := j.isLt; omega
    rw [(hm c).2.1, block_at c w k j hi]
    exact w_coe hm hp k ⟨_, hi⟩
  lab r := by rw [(hm c).2.2]; exact (lab_nat hm hp r).2

/-- Every device's result is the reference's. -/
theorem result_eq (c : Dev Cert.KernelIdeal.nD) : result m c = Cert.ReferenceIdeal.Rows.out x w lab := by
  funext i
  obtain ⟨r, rfl⟩ : ∃ r : Fin 2048, i = ix1 r := ⟨i 0, by funext a; match a with | ⟨0, _⟩ => rfl⟩
  have hl := lab_nat hm hp r
  have e : result m c (ix1 r) = outV m c (ix2 r 0) := by
    unfold Cert.KernelIdeal.Run.result
    generalize outV m c = o
    pointwise
  rw [e, result_real (holds hm hp c) (holds hm hp (pr c)) r (lab (ix1 r)).toNat (by rw [(hm c).2.2]) (by rw [(hm (pr c)).2.2]),
    Cert.ReferenceIdeal.Rows.out_real (fun r k => EReal.toReal (x (ix2 r k))) (wReal w) (x_coe hm hp) (w_coe hm hp) r
      (lab (ix1 r)).toNat hl.2 hl.1]
  rfl

end

end Cert.Equation

end
-- ==== Proof.lean ====
/-
  The claims assembled: the kernel's run at both number systems and the reference's run give the frames; the two runs with the
  equation of their results give the equality.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- Over any float values the kernel's text runs to the end, leaves its arguments as they were and every counter at zero. -/
theorem frame_text {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (Cert.KernelIdeal.Run.run_main m ρ)

/-- The two programs' bodies are one text. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (_, _) => rfl

/-- So are the procedures around them. -/
theorem defs_eq {F : FTy → Type} [FloatOps F] : Cert.Kernel.defs (F := F) = Cert.KernelIdeal.defs (F := F) :=
  congrArg (Pipeline.defs Cert.KernelIdeal.pcfgs) bodies_eq

/-- The kernel on the machine's words: its text is the same. -/
theorem frame_kernel : Cert.quiescent_Kernel := by
  intro m ρ _
  rw [defs_eq]
  exact frame_text (F := Bits) m ρ

/-- The kernel on the ideal numbers. -/
theorem frame_ideal : Cert.quiescent_KernelIdeal := fun m ρ _ => frame_text (F := Ideal) m ρ

/-- The reference runs to the end and leaves its arguments as they were; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the kernel's result on every device is the reference's. -/
theorem equal : Cert.algebraic_KernelIdeal_ReferenceIdeal_pre_finite_and_labelled_KernelIdeal
    (hPre_finite_and_labelled_KernelIdeal := Cert.Equation.preFacts) := fun m g m' g' hp hm =>
  ⟨Cert.ReferenceIdeal.Rows.out (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono
      (fun _ h c => ⟨(h.1 c).1.trans (Cert.Equation.result_eq (m := m) hm hp c), (h.1 c).2⟩)
      (Cert.KernelIdeal.Run.run_main (F := Ideal) m g),
    (θ_run Cert.ReferenceIdeal.defs _ _).mono (fun _ h => h 0) (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts, Cert.Equation.preFacts, Cert.Equation.preFactsRef,
    frame_kernel, frame_ideal, fun m ρ _ => frame_ideal m ρ trivial, frame_reference, fun m ρ _ => frame_reference m ρ trivial,
    trivial, equal⟩

end Cert.Proof

end
